-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3 : Shape := ⟨3, ![4, 8192, 3]⟩
abbrev S4x1024x3 : Shape := ⟨3, ![4, 1024, 3]⟩
abbrev S4x256x8192 : Shape := ⟨3, ![4, 256, 8192]⟩
abbrev S4x2048x4x3 : Shape := ⟨4, ![4, 2048, 4, 3]⟩
abbrev S4x4x3x2048 : Shape := ⟨4, ![4, 4, 3, 2048]⟩
abbrev S4x1024x2048 : Shape := ⟨3, ![4, 1024, 2048]⟩
abbrev S1x1024x3 : Shape := ⟨3, ![1, 1024, 3]⟩
abbrev S1x4x3x512 : Shape := ⟨4, ![1, 4, 3, 512]⟩
abbrev S1x1024x512 : Shape := ⟨3, ![1, 1024, 512]⟩
abbrev S1024x3 : Shape := ⟨2, ![1024, 3]⟩
abbrev S1024x1 : Shape := ⟨2, ![1024, 1]⟩
abbrev S1024 : Shape := ⟨1, ![1024]⟩
abbrev S1x1x3x512 : Shape := ⟨4, ![1, 1, 3, 512]⟩
abbrev S3x512 : Shape := ⟨2, ![3, 512]⟩
abbrev S1x512 : Shape := ⟨2, ![1, 512]⟩
abbrev S512 : Shape := ⟨1, ![512]⟩
abbrev S1024x512 : Shape := ⟨2, ![1024, 512]⟩
abbrev S4096x16x128 : Shape := ⟨3, ![4096, 16, 128]⟩
abbrev S4x3x8192 : Shape := ⟨3, ![4, 3, 8192]⟩
abbrev S12x8192 : Shape := ⟨2, ![12, 8192]⟩
abbrev S12288 : Shape := ⟨1, ![12288]⟩
abbrev S12288x32 : Shape := ⟨2, ![12288, 32]⟩
abbrev S8192 : Shape := ⟨1, ![8192]⟩
abbrev S384 : Shape := ⟨1, ![384]⟩
abbrev S128 : Shape := ⟨1, ![128]⟩
abbrev S544 : Shape := ⟨1, ![544]⟩
abbrev S3x128x32 : Shape := ⟨3, ![3, 128, 32]⟩
abbrev S1 : Shape := ⟨1, ![1]⟩
abbrev S_ : Shape := ⟨0, ![]⟩
abbrev S1x8192 : Shape := ⟨2, ![1, 8192]⟩
abbrev S16 : Shape := ⟨1, ![16]⟩
abbrev S1x1x128 : Shape := ⟨3, ![1, 1, 128]⟩
abbrev S1x1x16 : Shape := ⟨3, ![1, 1, 16]⟩
abbrev S1x128x32 : Shape := ⟨3, ![1, 128, 32]⟩
abbrev S128x32 : Shape := ⟨2, ![128, 32]⟩
abbrev S4x3x1024x32 : Shape := ⟨4, ![4, 3, 1024, 32]⟩

abbrev nBuf : Table → Nat
  | .hbm => 12
  | .local .tc .vmem => 6
  | .local .scVector .smem => 1
  | .local .scVector .vmem => 7
  | _ => 0

abbrev bufTy : (tb : Table) → Fin (nBuf tb) → BufTy
  | .hbm, ⟨0, _⟩ => ⟨S4x8192x3, .f32⟩
  | .hbm, ⟨1, _⟩ => ⟨S4x1024x3, .f32⟩
  | .hbm, ⟨2, _⟩ => ⟨S4x256x8192, .f32⟩
  | .hbm, ⟨3, _⟩ => ⟨S4x2048x4x3, .f32⟩
  | .hbm, ⟨4, _⟩ => ⟨S4x4x3x2048, .f32⟩
  | .hbm, ⟨5, _⟩ => ⟨S4x1024x2048, .i32⟩
  | .hbm, ⟨6, _⟩ => ⟨S4096x16x128, .i32⟩
  | .hbm, ⟨7, _⟩ => ⟨S4x3x8192, .f32⟩
  | .hbm, ⟨8, _⟩ => ⟨S12x8192, .f32⟩
  | .hbm, ⟨9, _⟩ => ⟨S12288, .f32⟩
  | .hbm, ⟨10, _⟩ => ⟨S12288x32, .f32⟩
  | .hbm, ⟨11, _⟩ => ⟨S4x3x1024x32, .f32⟩
  | .local .tc .vmem, ⟨0, _⟩ => ⟨S1x1024x3, .f32⟩
  | .local .tc .vmem, ⟨1, _⟩ => ⟨S1x1024x3, .f32⟩
  | .local .tc .vmem, ⟨2, _⟩ => ⟨S1x4x3x512, .f32⟩
  | .local .tc .vmem, ⟨3, _⟩ => ⟨S1x4x3x512, .f32⟩
  | .local .tc .vmem, ⟨4, _⟩ => ⟨S1x1024x512, .i32⟩
  | .local .tc .vmem, ⟨5, _⟩ => ⟨S1x1024x512, .i32⟩
  | .local .scVector .smem, ⟨0, _⟩ => ⟨S1, .i32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S384, .f32⟩
  | .local .scVector .vmem, ⟨4, _⟩ => ⟨S128, .i32⟩
  | .local .scVector .vmem, ⟨5, _⟩ => ⟨S544, .i32⟩
  | .local .scVector .vmem, ⟨6, _⟩ => ⟨S3x128x32, .f32⟩
  | _, _ => ⟨S4x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v5_scv : Ref sig .scVector := ⟨.hbm, 8, rfl⟩
abbrev main_v6_scv : Ref sig .scVector := ⟨.hbm, 9, rfl⟩
abbrev main_v3_scv : Ref sig .scVector := ⟨.hbm, 6, rfl⟩
abbrev main_v7_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch7 : Ref sig .scVector := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v30 : BitVec 32 := Scalar.muli v18 c3_i32
  let v31 : BitVec 32 := Scalar.addi v30 c0_i32_10
  let c0_i32_33_r0 : BitVec 32 := 0#32
  ![v31.toNat, 0]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_15 : BitVec 32 := 128#32
  let v36 : BitVec 32 := Scalar.muli v1 c128_i32_15
  let c3_i32_16 : BitVec 32 := 3#32
  let v37 : BitVec 32 := Scalar.muli v36 c3_i32_16
  ![v37.toNat]
@[reducible] def k1_t1_loop : Scf.Loop 32 :=
  let c0_i32_19 : BitVec 32 := 0#32
  let c128_i32_20 : BitVec 32 := 128#32
  let v42 : BitVec 32 := Scalar.addi c0_i32_19 c128_i32_20
  let c1_i32_21 : BitVec 32 := 1#32
  ⟨c0_i32_19, v42, c1_i32_21⟩
@[reducible] def k1_t2_loop : Scf.Loop 32 :=
  let c0_i32_37 : BitVec 32 := 0#32
  let c16_i32 : BitVec 32 := 16#32
  let v61 : BitVec 32 := Scalar.addi c0_i32_37 c16_i32
  let c1_i32_38 : BitVec 32 := 1#32
  ⟨c0_i32_37, v61, c1_i32_38⟩
def k1_off3 (i : grid1.Coords) (k1_t1 : Fin k1_t1_loop.trips) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_33 : BitVec 32 := 128#32
  let v55 : BitVec 32 := Scalar.muli v1 c128_i32_33
  let c0_i32_19 : BitVec 32 := 0#32
  let c1_i32_21 : BitVec 32 := 1#32
  let arg14 : BitVec 32 := Scf.iv c0_i32_19 c1_i32_21 k1_t1
  let v56 : BitVec 32 := Scalar.addi v55 arg14
  let c0_i32_37 : BitVec 32 := 0#32
  let c1_i32_38 : BitVec 32 := 1#32
  let arg15 : BitVec 32 := Scf.iv c0_i32_37 c1_i32_38 k1_t2
  let c0_i32_75_r4 : BitVec 32 := 0#32
  ![v56.toNat, arg15.toNat, 0]
@[reducible] def k1_t3_loop : Scf.Loop 32 :=
  let c0_i32_70 : BitVec 32 := 0#32
  let c8_i32_71 : BitVec 32 := 8#32
  let v137 : BitVec 32 := Scalar.addi c0_i32_70 c8_i32_71
  let c1_i32_72 : BitVec 32 := 1#32
  ⟨c0_i32_70, v137, c1_i32_72⟩
def k1_off4 (k1_t3 : Fin k1_t3_loop.trips) : Fin 1 → Nat :=
  let c0_i32_70 : BitVec 32 := 0#32
  let c1_i32_72 : BitVec 32 := 1#32
  let arg16 : BitVec 32 := Scf.iv c0_i32_70 c1_i32_72 k1_t3
  let c16_i32_75 : BitVec 32 := 16#32
  let v141 : BitVec 32 := Scalar.muli arg16 c16_i32_75
  let v142 : Index := Scalar.indexCast v141
  ![v142.toNat]
def k1_cond1 (v130 : BitVec 32) : BitVec 1 :=
  let c32_i32 : BitVec 32 := 32#32
  let v131 : BitVec 1 := Scalar.cmpi .slt v130 c32_i32
  let v132 : BitVec 32 := Scalar.extui v131
  let c0_i32_68 : BitVec 32 := 0#32
  let v133 : BitVec 1 := Scalar.cmpi .ne v132 c0_i32_68
  v133

def k1_chk1 (v130 : BitVec 32) (v165 : IVec S16 32) : Prop :=
  (∀ (k1_h1 : k1_cond1 v130 = 1#1), ∀ a x, ((![v165] : Fin 1 → IVec S16 32) a x).toNat < S544.size a)
theorem k1_idx1_inb : ∀ (v130 : BitVec 32) (v165 : IVec S16 32) (k1_hw1 : k1_chk1 v130 v165), ∀ (k1_h1 : k1_cond1 v130 = 1#1), ∀ a x, ((![v165] : Fin 1 → IVec S16 32) a x).toNat < S544.size a := fun v130 v165 k1_hw1 k1_h1 => k1_hw1 k1_h1

def k1_chk2 (v130 : BitVec 32) (v172 : IVec S16 32) : Prop :=
  (∀ (k1_h1 : k1_cond1 v130 = 1#1), ∀ a x, ((![v172] : Fin 1 → IVec S16 32) a x).toNat < S544.size a)
theorem k1_idx2_inb : ∀ (v130 : BitVec 32) (v172 : IVec S16 32) (k1_hw2 : k1_chk2 v130 v172), ∀ (k1_h1 : k1_cond1 v130 = 1#1), ∀ a x, ((![v172] : Fin 1 → IVec S16 32) a x).toNat < S544.size a := fun v130 v172 k1_hw2 k1_h1 => k1_hw2 k1_h1

def k1_chk3 (v130 : BitVec 32) (v178 : IVec S16 32) : Prop :=
  (∀ (k1_h1 : k1_cond1 v130 = 1#1), ∀ a x, ((![v178] : Fin 1 → IVec S16 32) a x).toNat < S544.size a)
theorem k1_idx3_inb : ∀ (v130 : BitVec 32) (v178 : IVec S16 32) (k1_hw3 : k1_chk3 v130 v178), ∀ (k1_h1 : k1_cond1 v130 = 1#1), ∀ a x, ((![v178] : Fin 1 → IVec S16 32) a x).toNat < S544.size a := fun v130 v178 k1_hw3 k1_h1 => k1_hw3 k1_h1

def k1_chk4 (v130 : BitVec 32) (v184 : IVec S16 32) : Prop :=
  (∀ (k1_h1 : k1_cond1 v130 = 1#1), ∀ a x, ((![v184] : Fin 1 → IVec S16 32) a x).toNat < S544.size a)
theorem k1_idx4_inb : ∀ (v130 : BitVec 32) (v184 : IVec S16 32) (k1_hw4 : k1_chk4 v130 v184), ∀ (k1_h1 : k1_cond1 v130 = 1#1), ∀ a x, ((![v184] : Fin 1 → IVec S16 32) a x).toNat < S544.size a := fun v130 v184 k1_hw4 k1_h1 => k1_hw4 k1_h1

def k1_chk5 (v41 : IVec S16 32) : Prop :=
  (∀ a x, ((![v41] : Fin 1 → IVec S16 32) a x).toNat < S544.size a)
theorem k1_idx5_inb : ∀ (v41 : IVec S16 32) (k1_hw5 : k1_chk5 v41), ∀ a x, ((![v41] : Fin 1 → IVec S16 32) a x).toNat < S544.size a := fun v41 k1_hw5 => k1_hw5

def k1_chk6 (v77 : IVec S16 32) : Prop :=
  (∀ a x, ((![v77] : Fin 1 → IVec S16 32) a x).toNat < S384.size a)
theorem k1_idx6_inb : ∀ (v77 : IVec S16 32) (k1_hw6 : k1_chk6 v77), ∀ a x, ((![v77] : Fin 1 → IVec S16 32) a x).toNat < S384.size a := fun v77 k1_hw6 => k1_hw6
def k1_off5 (k1_t1 : Fin k1_t1_loop.trips) : Fin 3 → Nat :=
  let c0_i32_46 : BitVec 32 := 0#32
  let v84 : Index := Scalar.indexCast c0_i32_46
  let c0_i32_19 : BitVec 32 := 0#32
  let c1_i32_21 : BitVec 32 := 1#32
  let arg14 : BitVec 32 := Scf.iv c0_i32_19 c1_i32_21 k1_t1
  let v85 : Index := Scalar.indexCast arg14
  let c0_47 : Index := 0#32
  ![0, v85.toNat, 0]
def k1_off6 (k1_t1 : Fin k1_t1_loop.trips) : Fin 3 → Nat :=
  let c0_i32_49 : BitVec 32 := 0#32
  let v90 : Index := Scalar.indexCast c0_i32_49
  let c0_i32_19 : BitVec 32 := 0#32
  let c1_i32_21 : BitVec 32 := 1#32
  let arg14 : BitVec 32 := Scf.iv c0_i32_19 c1_i32_21 k1_t1
  let v91 : Index := Scalar.indexCast arg14
  let c16_50 : Index := 16#32
  ![0, v91.toNat, 16]

def k1_chk9 (v95 : IVec S16 32) : Prop :=
  (∀ a x, ((![v95] : Fin 1 → IVec S16 32) a x).toNat < S384.size a)
theorem k1_idx9_inb : ∀ (v95 : IVec S16 32) (k1_hw9 : k1_chk9 v95), ∀ a x, ((![v95] : Fin 1 → IVec S16 32) a x).toNat < S384.size a := fun v95 k1_hw9 => k1_hw9
def k1_off7 (k1_t1 : Fin k1_t1_loop.trips) : Fin 3 → Nat :=
  let c1_i32_54 : BitVec 32 := 1#32
  let v102 : Index := Scalar.indexCast c1_i32_54
  let c0_i32_19 : BitVec 32 := 0#32
  let c1_i32_21 : BitVec 32 := 1#32
  let arg14 : BitVec 32 := Scf.iv c0_i32_19 c1_i32_21 k1_t1
  let v103 : Index := Scalar.indexCast arg14
  let c0_55 : Index := 0#32
  ![1, v103.toNat, 0]
def k1_off8 (k1_t1 : Fin k1_t1_loop.trips) : Fin 3 → Nat :=
  let c1_i32_57 : BitVec 32 := 1#32
  let v108 : Index := Scalar.indexCast c1_i32_57
  let c0_i32_19 : BitVec 32 := 0#32
  let c1_i32_21 : BitVec 32 := 1#32
  let arg14 : BitVec 32 := Scf.iv c0_i32_19 c1_i32_21 k1_t1
  let v109 : Index := Scalar.indexCast arg14
  let c16_58 : Index := 16#32
  ![1, v109.toNat, 16]

def k1_chk10 (v113 : IVec S16 32) : Prop :=
  (∀ a x, ((![v113] : Fin 1 → IVec S16 32) a x).toNat < S384.size a)
theorem k1_idx12_inb : ∀ (v113 : IVec S16 32) (k1_hw10 : k1_chk10 v113), ∀ a x, ((![v113] : Fin 1 → IVec S16 32) a x).toNat < S384.size a := fun v113 k1_hw10 => k1_hw10

def k1_chk7 (v69 : IVec S16 32) : Prop :=
  (∀ a x, ((![v69] : Fin 1 → IVec S16 32) a x).toNat < S8192.size a) ∧
  (∀ a x, ((![v69] : Fin 1 → IVec S16 32) a x).toNat < S8192.size a) ∧
  (∀ a x, ((![v69] : Fin 1 → IVec S16 32) a x).toNat < S8192.size a)
theorem k1_idx7_inb : ∀ (v69 : IVec S16 32) (k1_hw7 : k1_chk7 v69), ∀ a x, ((![v69] : Fin 1 → IVec S16 32) a x).toNat < S8192.size a := fun v69 k1_hw7 => k1_hw7.1
theorem k1_idx10_inb : ∀ (v69 : IVec S16 32) (k1_hw7 : k1_chk7 v69), ∀ a x, ((![v69] : Fin 1 → IVec S16 32) a x).toNat < S8192.size a := fun v69 k1_hw7 => k1_hw7.2.1
theorem k1_idx13_inb : ∀ (v69 : IVec S16 32) (k1_hw7 : k1_chk7 v69), ∀ a x, ((![v69] : Fin 1 → IVec S16 32) a x).toNat < S8192.size a := fun v69 k1_hw7 => k1_hw7.2.2

def k1_chk8 (v74 : IVec S16 32) : Prop :=
  (∀ a x, ((![v74] : Fin 1 → IVec S16 32) a x).toNat < S8192.size a) ∧
  (∀ a x, ((![v74] : Fin 1 → IVec S16 32) a x).toNat < S8192.size a) ∧
  (∀ a x, ((![v74] : Fin 1 → IVec S16 32) a x).toNat < S8192.size a)
theorem k1_idx8_inb : ∀ (v74 : IVec S16 32) (k1_hw8 : k1_chk8 v74), ∀ a x, ((![v74] : Fin 1 → IVec S16 32) a x).toNat < S8192.size a := fun v74 k1_hw8 => k1_hw8.1
theorem k1_idx11_inb : ∀ (v74 : IVec S16 32) (k1_hw8 : k1_chk8 v74), ∀ a x, ((![v74] : Fin 1 → IVec S16 32) a x).toNat < S8192.size a := fun v74 k1_hw8 => k1_hw8.2.1
theorem k1_idx14_inb : ∀ (v74 : IVec S16 32) (k1_hw8 : k1_chk8 v74), ∀ a x, ((![v74] : Fin 1 → IVec S16 32) a x).toNat < S8192.size a := fun v74 k1_hw8 => k1_hw8.2.2
def k1_off9 (k1_t1 : Fin k1_t1_loop.trips) : Fin 3 → Nat :=
  let c2_i32_62 : BitVec 32 := 2#32
  let v120 : Index := Scalar.indexCast c2_i32_62
  let c0_i32_19 : BitVec 32 := 0#32
  let c1_i32_21 : BitVec 32 := 1#32
  let arg14 : BitVec 32 := Scf.iv c0_i32_19 c1_i32_21 k1_t1
  let v121 : Index := Scalar.indexCast arg14
  let c0_63 : Index := 0#32
  ![2, v121.toNat, 0]
def k1_off10 (k1_t1 : Fin k1_t1_loop.trips) : Fin 3 → Nat :=
  let c2_i32_65 : BitVec 32 := 2#32
  let v126 : Index := Scalar.indexCast c2_i32_65
  let c0_i32_19 : BitVec 32 := 0#32
  let c1_i32_21 : BitVec 32 := 1#32
  let arg14 : BitVec 32 := Scf.iv c0_i32_19 c1_i32_21 k1_t1
  let v127 : Index := Scalar.indexCast arg14
  let c16_66 : Index := 16#32
  ![2, v127.toNat, 16]
def k1_off11 (i : grid1.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_23 : BitVec 32 := 3#32
  let v43 : BitVec 32 := Scalar.muli v18 c3_i32_23
  let c1024_i32 : BitVec 32 := 1024#32
  let v44 : BitVec 32 := Scalar.muli v43 c1024_i32
  let v45 : BitVec 32 := Scalar.addi v44 c0_i32_24
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v46 : BitVec 32 := Scalar.addi v45 v29
  let c0_i32_35_r5 : BitVec 32 := 0#32
  ![v46.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x3 : Shape := ⟨3, ![4, 8192, 3]⟩
abbrev S4x1024x3 : Shape := ⟨3, ![4, 1024, 3]⟩
abbrev S4x256x8192 : Shape := ⟨3, ![4, 256, 8192]⟩
abbrev S_ : Shape := ⟨0, ![]⟩
abbrev S4x1024 : Shape := ⟨2, ![4, 1024]⟩
abbrev S4x1024x1 : Shape := ⟨3, ![4, 1024, 1]⟩
abbrev S4x8192 : Shape := ⟨2, ![4, 8192]⟩
abbrev S4x1x8192 : Shape := ⟨3, ![4, 1, 8192]⟩
abbrev S4x1024x8192 : Shape := ⟨3, ![4, 1024, 8192]⟩
abbrev S8192 : Shape := ⟨1, ![8192]⟩
abbrev S1x1x8192 : Shape := ⟨3, ![1, 1, 8192]⟩
abbrev S4x1024x32 : Shape := ⟨3, ![4, 1024, 32]⟩
abbrev S4x3x8192 : Shape := ⟨3, ![4, 3, 8192]⟩
abbrev S4x1024x32x1 : Shape := ⟨4, ![4, 1024, 32, 1]⟩
abbrev S4x3x1024x32 : Shape := ⟨4, ![4, 3, 1024, 32]⟩
abbrev S4x3x1024 : Shape := ⟨3, ![4, 3, 1024]⟩
abbrev S4x3x1024x1 : Shape := ⟨4, ![4, 3, 1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x1024x3, .f32⟩
  | .hbm, ⟨2, _⟩ => ⟨S4x256x8192, .f32⟩
  | .hbm, ⟨3, _⟩ => ⟨S4x1024x3, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1x8192, .f32⟩
  | .hbm, ⟨11, _⟩ => ⟨S4x1024x8192, .f32⟩
  | .hbm, ⟨12, _⟩ => ⟨S4x1024x8192, .f32⟩
  | .hbm, ⟨13, _⟩ => ⟨S4x1024x8192, .f32⟩
  | .hbm, ⟨14, _⟩ => ⟨S4x1024x8192, .f32⟩
  | .hbm, ⟨15, _⟩ => ⟨S_, .f32⟩
  | .hbm, ⟨16, _⟩ => ⟨S4x1024x8192, .f32⟩
  | .hbm, ⟨17, _⟩ => ⟨S4x1024x8192, .f32⟩
  | .hbm, ⟨18, _⟩ => ⟨S4x1024x8192, .f32⟩
  | .hbm, ⟨19, _⟩ => ⟨S_, .f32⟩
  | .hbm, ⟨20, _⟩ => ⟨S4x1024x8192, .f32⟩
  | .hbm, ⟨21, _⟩ => ⟨S4x1024x8192, .i1⟩
  | .hbm, ⟨22, _⟩ => ⟨S8192, .i32⟩
  | .hbm, ⟨23, _⟩ => ⟨S1x1x8192, .i32⟩
  | .hbm, ⟨24, _⟩ => ⟨S_, .i32⟩
  | .hbm, ⟨25, _⟩ => ⟨S4x1024x8192, .i32⟩
  | .hbm, ⟨26, _⟩ => ⟨S4x1024x8192, .i32⟩
  | .hbm, ⟨27, _⟩ => ⟨S4x1024x8192, .i32⟩
  | .hbm, ⟨28, _⟩ => ⟨S4x1024x8192, .i32⟩
  | .hbm, ⟨29, _⟩ => ⟨S4x1024x32, .i32⟩
  | .hbm, ⟨30, _⟩ => ⟨S4x1024x1, .i32⟩
  | .hbm, ⟨31, _⟩ => ⟨S_, .i32⟩
  | .hbm, ⟨32, _⟩ => ⟨S4x1024x1, .i32⟩
  | .hbm, ⟨33, _⟩ => ⟨S4x1024x1, .i1⟩
  | .hbm, ⟨34, _⟩ => ⟨S_, .i32⟩
  | .hbm, ⟨35, _⟩ => ⟨S4x1024x1, .i32⟩
  | .hbm, ⟨36, _⟩ => ⟨S4x1024x1, .i32⟩
  | .hbm, ⟨37, _⟩ => ⟨S_, .i32⟩
  | .hbm, ⟨38, _⟩ => ⟨S4x1024x32, .i32⟩
  | .hbm, ⟨39, _⟩ => ⟨S4x1024x32, .i1⟩
  | .hbm, ⟨40, _⟩ => ⟨S4x1024x32, .i32⟩
  | .hbm, ⟨41, _⟩ => ⟨S4x1024x32, .i32⟩
  | .hbm, ⟨42, _⟩ => ⟨S4x3x8192, .f32⟩
  | .hbm, ⟨43, _⟩ => ⟨S_, .i32⟩
  | .hbm, ⟨44, _⟩ => ⟨S4x1024x32, .i32⟩
  | .hbm, ⟨45, _⟩ => ⟨S4x1024x32, .i1⟩
  | .hbm, ⟨46, _⟩ => ⟨S_, .i32⟩
  | .hbm, ⟨47, _⟩ => ⟨S4x1024x32, .i32⟩
  | .hbm, ⟨48, _⟩ => ⟨S4x1024x32, .i32⟩
  | .hbm, ⟨49, _⟩ => ⟨S4x1024x32, .i32⟩
  | .hbm, ⟨50, _⟩ => ⟨S4x1024x32x1, .i32⟩
  | .hbm, ⟨51, _⟩ => ⟨S4x3x1024x32, .f32⟩
  | .hbm, ⟨52, _⟩ => ⟨S4x3x1024, .f32⟩
  | .hbm, ⟨53, _⟩ => ⟨S4x3x1024x1, .f32⟩
  | .hbm, ⟨54, _⟩ => ⟨S4x3x1024x32, .f32⟩
  | .hbm, ⟨55, _⟩ => ⟨S4x3x1024x32, .f32⟩
  | .hbm, ⟨56, _⟩ => ⟨S_, .f32⟩
  | .hbm, ⟨57, _⟩ => ⟨S4x3x1024x32, .f32⟩
  | .hbm, ⟨58, _⟩ => ⟨S4x3x1024x32, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_call2_v0 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_call3_v0 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Own.Setup.lean ====
/-
  The program as the SparseCore launch theorem sees it, the resource algebra of the proof (the handshakes' rounds, the TensorCore
  call's pipeline rounds, the transfers' counters), the arrays and the grouped kernel's memrefs.
-/
module

public import Idealize.ShloMosaic.Lib.WritesUnit
public import Idealize.ShloMosaic.Lib.Pipeline.Value
public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct, unscoped, and no scratch of a task is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore call's staging rounds. -/
abbrev UR : Type := URounds (GSem nD τ sig) Unit
/-- The two, beside the transfers' counters. -/
abbrev UU : Type := UH × (UR × Counters)

end Cert.Proof.Grp
-- ==== Proof.Own.Compact.lean ====
/-
  The compaction of a query's mask bits into a list of point numbers, as arithmetic on words: the points within the radius
  are numbered by how many of them came before (`Nat.count`), a trip of sixteen mask words writes each one's number at that
  rank, and the first thirty-two ranks are what the query's result reads.
-/
module

public import proofs.«01_k».proof.Proof.Own.Setup
public import Mathlib.Data.Nat.Count
public import Idealize.ShloMosaic.Lib.WordArith

@[expose] public section

noncomputable section

namespace Cert.Proof.Grp

open Cert.KernelIdeal Cert.KernelIdeal.Gen
open Idealize.ShloMosaic

variable {F : FTy → Type}

/-- The index of a sixteen-lane vector at lane `l`. -/
abbrev ln (l : Fin 16) : S16.Idx := Shape.ofLane (d := ![16]) l

/-- A lane's number as a word. -/
theorem ln_val (l : Fin 16) : (ln l 0).val = l.val := rfl
/-- Every index of 16 lanes is a lane. -/
theorem exists_ln (x : S16.Idx) : ∃ l : Fin 16, x = ln l :=
  ⟨x 0, funext fun a => by rw [Fin.eq_zero a]; rfl⟩

/-- A fold of updates at one place: the place holds some update's value, or, no update reaching it, what it held. -/
theorem foldl_cases {J α : Type} {n : ℕ} (stp : (J → α) → Fin n → J → α) (P : Fin n → Prop) (val : Fin n → α) (j : J)
    (hhit : ∀ g k, P k → stp g k j = val k) (hmiss : ∀ g k, ¬ P k → stp g k j = g j) (l : List (Fin n)) :
    ∀ g, (∃ k, P k ∧ l.foldl stp g j = val k) ∨ ((∀ k ∈ l, ¬ P k) ∧ l.foldl stp g j = g j) := by
  induction l with
  | nil => intro g; exact .inr ⟨fun k hk => absurd hk (List.not_mem_nil), rfl⟩
  | cons k l ih =>
    intro g
    rw [List.foldl_cons]
    rcases ih (stp g k) with hh | ⟨hm, hh⟩
    · exact .inl hh
    · by_cases hk : P k
      · exact .inl ⟨k, hk, hh.trans (hhit g k hk)⟩
      · refine .inr ⟨fun k' hk' => ?_, hh.trans (hmiss g k hk)⟩
        rcases List.mem_cons.mp hk' with rfl | hk'
        · exact hk
        · exact hm k' hk'

/-- A masked scatter of sixteen words: each place holds the word of a set lane that names it, or, no set lane naming it,
    what it held. -/
theorem storeIdx_cases {F : FTy → Type} [FloatOps F] (f : Vec F S544 .i32) (ix : IVec S16 32) (v : Vec F S16 .i32) (mask : IVec S16 1)
    (h : ∀ a x, ((![ix] : Fin 1 → IVec S16 32) a x).toNat < S544.size a) (j : S544.Idx) :
    (∃ l : Fin 16, mask (ln l) = 1 ∧ (ix (ln l)).toNat = (j 0).val ∧ storeIdx f ![ix] v mask false h j = v (ln l))
      ∨ ((∀ l : Fin 16, mask (ln l) = 1 → (ix (ln l)).toNat ≠ (j 0).val) ∧ storeIdx f ![ix] v mask false h j = f j) := by
  have := foldl_cases (fun (g : Vec F S544 .i32) (k : Fin 16) =>
      if mask (ln k) = 1 then
        (fun j : S544.Idx => if (∀ a, (j a).val = (idxAt (![ix] : Fin 1 → IVec S16 32) h (ln k) a).val) then v (ln k) else g j)
      else g) (fun k => mask (ln k) = 1 ∧ (ix (ln k)).toNat = (j 0).val) (fun k => v (ln k)) j
    (fun g k hk => by
      dsimp only
      rw [if_pos hk.1, if_pos]
      intro a; rw [Fin.eq_zero a]; exact hk.2.symm)
    (fun g k hk => by
      dsimp only
      by_cases hm : mask (ln k) = 1
      · rw [if_pos hm, if_neg]
        intro ha; exact hk ⟨hm, (ha 0).symm⟩
      · rw [if_neg hm])
    (List.finRange 16) f
  rw [show (List.finRange 16).foldl (fun (g : Vec F S544 .i32) (k : Fin 16) =>
      if mask (ln k) = 1 then
        (fun j : S544.Idx => if (∀ a, (j a).val = (idxAt (![ix] : Fin 1 → IVec S16 32) h (ln k) a).val) then v (ln k) else g j)
      else g) f = storeIdx f ![ix] v mask false h from by
    unfold storeIdx
    simp only [Bool.false_eq_true, if_false]
    rfl] at this
  rcases this with ⟨k, hk, e⟩ | ⟨hno, e⟩
  · exact .inl ⟨k, hk.1, hk.2, e⟩
  · exact .inr ⟨fun l hl hj => hno l (List.mem_finRange _) ⟨hl, hj⟩, e⟩

/-! ## Running sums -/

/-- Before the first lane, the count of the lanes so far is 0. -/
theorem scan_zero (t : IVec S16 32) : scan .sum t (ln 0) = t (ln 0) := rfl
/-- One lane more adds its four bits. -/
theorem scan_succ (t : IVec S16 32) (j : ℕ) (hj : j + 1 < 16) :
    scan .sum t (ln ⟨j + 1, hj⟩) = scan .sum t (ln ⟨j, by omega⟩) + t (ln ⟨j + 1, hj⟩) := by
  have : ∀ j : Fin 15, scan .sum t (ln ⟨j + 1, by omega⟩) = scan .sum t (ln ⟨j, by omega⟩) + t (ln ⟨j + 1, by omega⟩) := by
    intro j; fin_cases j <;> rfl
  exact this ⟨j, by omega⟩

variable (p : ℕ → Prop) [DecidablePred p]

/-- How many points in front of point `n` are within the radius, as a word. -/
abbrev cw (n : ℕ) : BitVec 32 := BitVec.ofNat 32 (Nat.count p n)

/-- The running count over one byte more. -/
theorem cw_succ (n : ℕ) : cw p (n + 1) = cw p n + BitVec.ofNat 32 (if p n then 1 else 0) := by
  unfold cw; rw [Nat.count_succ, BitVec.ofNat_add]

/-- Among `k` further numbers at most `k` are marked. -/
theorem count_le_add (n k : ℕ) : Nat.count p (n + k) ≤ Nat.count p n + k := by
  rw [Nat.count_add]; exact Nat.add_le_add_left (Nat.count_le _) _

/-! ## A mask word's bits -/

/-- A word's bit, taken by a shift and a mask. -/
theorem bit_word (w : BitVec 32) (c : ℕ) (hc : c < 32) :
    (w.sshiftRight c &&& 1#32) = BitVec.ofNat 32 (if w.getLsbD c = true then 1 else 0) := by
  rw [BitVec.and_one_eq_setWidth_ofBool_getLsbD, BitVec.getLsbD_sshiftRight]
  simp only [Nat.add_zero, show ¬ (32 ≤ 0) by omega, decide_false, Bool.not_false, Bool.true_and, hc, if_true]
  cases w.getLsbD c <;> rfl

variable {p}

/-- The words of a trip are query `p`'s points `D, D + 1, …, D + 63`, four to a word. -/
def TripWords (p : ℕ → Prop) (D : ℕ) (w : IVec S16 32) : Prop :=
  ∀ (l : Fin 16) (c : ℕ), c < 4 → ((w (ln l)).getLsbD (8 * c) = true ↔ p (D + 4 * l.val + c))

/-- The printed bit of a word's byte. -/
theorem pay_bit {w : IVec S16 32} {D : ℕ} (hw : TripWords p D w) (l : Fin 16) :
    k1_pay1 (F := F) w (ln l) = BitVec.ofNat 32 (if p (D + 4 * l.val) then 1 else 0)
    ∧ k1_pay2 (F := F) w (ln l) = BitVec.ofNat 32 (if p (D + 4 * l.val + 1) then 1 else 0)
    ∧ k1_pay3 (F := F) w (ln l) = BitVec.ofNat 32 (if p (D + 4 * l.val + 2) then 1 else 0)
    ∧ k1_pay4 (F := F) w (ln l) = BitVec.ofNat 32 (if p (D + 4 * l.val + 3) then 1 else 0) := by
  have e (c : ℕ) (hc : c < 4) : (if (w (ln l)).getLsbD (8 * c) = true then 1 else 0) = if p (D + 4 * l.val + c) then 1 else 0 := by
    simp only [hw l c hc]
  have e0 := e 0 (by omega); have e1 := e 1 (by omega); have e2 := e 2 (by omega); have e3 := e 3 (by omega)
  refine ⟨?_, ?_, ?_, ?_⟩
  · rw [← Nat.add_zero (D + 4 * l.val), ← e0, ← bit_word _ _ (by omega)]
    show w (ln l) &&& 1#32 = _
    simp
  · rw [← e1, ← bit_word _ _ (by omega)]; rfl
  · rw [← e2, ← bit_word _ _ (by omega)]; rfl
  · rw [← e3, ← bit_word _ _ (by omega)]; rfl

/-- A lane's number of points within the radius takes the count past the lane's four points. -/
theorem pay5_eq {w : IVec S16 32} {D : ℕ} (hw : TripWords p D w) (l : Fin 16) :
    cw p (D + 4 * l.val) + k1_pay5 (F := F) w (ln l) = cw p (D + 4 * (l.val + 1)) := by
  obtain ⟨h1, h2, h3, h4⟩ := pay_bit (F := F) hw l
  show cw p (D + 4 * l.val) + ((k1_pay1 (F := F) w (ln l) + k1_pay2 (F := F) w (ln l)) + (k1_pay3 (F := F) w (ln l) + k1_pay4 (F := F) w (ln l))) = _
  rw [h1, h2, h3, h4, show D + 4 * (l.val + 1) = D + 4 * l.val + 1 + 1 + 1 + 1 by ring, cw_succ, cw_succ, cw_succ, cw_succ]
  simp only [BitVec.add_assoc]

/-- The running sums take the count past the lanes summed. -/
theorem pay6_eq {w : IVec S16 32} {D : ℕ} (hw : TripWords p D w) (l : Fin 16) :
    cw p D + k1_pay6 (F := F) w (ln l) = cw p (D + 4 * (l.val + 1)) := by
  obtain ⟨l, hl⟩ := l
  induction l with
  | zero => exact pay5_eq (F := F) hw ⟨0, hl⟩
  | succ j ih =>
    have e : k1_pay6 (F := F) w (ln ⟨j + 1, hl⟩) = k1_pay6 (F := F) w (ln ⟨j, by omega⟩) + k1_pay5 (F := F) w (ln ⟨j + 1, hl⟩) := scan_succ _ j hl
    rw [e, ← BitVec.add_assoc, ih (by omega)]
    exact pay5_eq (F := F) hw ⟨j + 1, hl⟩

/-- Where a lane's first point goes: the rank of that point. -/
theorem pay7_eq {w : IVec S16 32} {D : ℕ} (hw : TripWords p D w) (l : Fin 16) :
    k1_pay7 (F := F) (cw p D) w (ln l) = cw p (D + 4 * l.val) := by
  show cw p D + (k1_pay6 (F := F) w (ln l) - k1_pay5 (F := F) w (ln l)) = _
  have h1 := pay5_eq (F := F) hw l
  have h2 := pay6_eq (F := F) hw l
  rw [← h1] at h2
  rw [BitVec.sub_eq_add_neg, ← BitVec.add_assoc, h2, BitVec.add_assoc, ← BitVec.sub_eq_add_neg, BitVec.sub_self, BitVec.add_zero]

/-- The second, the third and the fourth point's. -/
theorem idx2_eq {w : IVec S16 32} {D : ℕ} (hw : TripWords p D w) (l : Fin 16) :
    addi (k1_pay7 (F := F) (cw p D) w) (k1_pay1 (F := F) w) (ln l) = cw p (D + 4 * l.val + 1) := by
  show k1_pay7 (F := F) (cw p D) w (ln l) + k1_pay1 (F := F) w (ln l) = _
  rw [pay7_eq hw, (pay_bit (F := F) hw l).1, cw_succ]
/-- The third store goes behind the first two bytes. -/
theorem idx3_eq {w : IVec S16 32} {D : ℕ} (hw : TripWords p D w) (l : Fin 16) :
    addi (k1_pay7 (F := F) (cw p D) w) (k1_pay12 (F := F) w) (ln l) = cw p (D + 4 * l.val + 2) := by
  show k1_pay7 (F := F) (cw p D) w (ln l) + (k1_pay1 (F := F) w (ln l) + k1_pay2 (F := F) w (ln l)) = _
  rw [pay7_eq hw, (pay_bit (F := F) hw l).1, (pay_bit (F := F) hw l).2.1, cw_succ, cw_succ, BitVec.add_assoc]
/-- The fourth store goes behind the first three bytes. -/
theorem idx4_eq {w : IVec S16 32} {D : ℕ} (hw : TripWords p D w) (l : Fin 16) :
    k1_pay15 (k1_pay3 (F := F) w) (k1_pay7 (F := F) (cw p D) w) (k1_pay12 (F := F) w) (ln l) = cw p (D + 4 * l.val + 3) := by
  show k1_pay7 (F := F) (cw p D) w (ln l) + ((k1_pay1 (F := F) w (ln l) + k1_pay2 (F := F) w (ln l)) + k1_pay3 (F := F) w (ln l)) = _
  rw [pay7_eq hw, (pay_bit (F := F) hw l).1, (pay_bit (F := F) hw l).2.1, (pay_bit (F := F) hw l).2.2.1, cw_succ, cw_succ, cw_succ]
  simp only [BitVec.add_assoc]

/-- The count after the trip. -/
theorem cnt_next {w : IVec S16 32} {D : ℕ} (hw : TripWords p D w) :
    Scalar.addi (cw p D) (extractAt ![0] (k1_pay18 (k1_pay6 (F := F) w)) inpos_S1_p0) = cw p (D + 64) := by
  have h := pay6_eq (F := F) hw ⟨15, by omega⟩
  have e : extractAt ![0] (k1_pay18 (k1_pay6 (F := F) w)) inpos_S1_p0 = k1_pay6 (F := F) w (ln ⟨15, by omega⟩) := by
    unfold k1_pay18 extractAt extractStridedSlice
    refine congrArg (k1_pay6 (F := F) w) ?_
    funext a; rw [Fin.eq_zero a]; rfl
  rw [e]; exact h

/-- A lane's mask bit is set exactly where its point is within the radius. -/
theorem sgt_bit (P : Prop) [Decidable P] : IntOp.cmpi .sgt (BitVec.ofNat 32 (if P then 1 else 0)) 0#32 = 1 ↔ P := by
  by_cases h : P <;> simp [h, IntOp.cmpi] <;> decide

/-- The first store writes the lanes whose first byte is set. -/
theorem mask1 {w : IVec S16 32} {D : ℕ} (hw : TripWords p D w) (l : Fin 16) : k1_pay9 (F := F) w (ln l) = 1 ↔ p (D + 4 * l.val + 0) := by
  show IntOp.cmpi .sgt (k1_pay1 (F := F) w (ln l)) 0#32 = 1 ↔ _
  rw [(pay_bit (F := F) hw l).1, sgt_bit]; rfl
/-- The second store writes the lanes whose second byte is set. -/
theorem mask2 {w : IVec S16 32} {D : ℕ} (hw : TripWords p D w) (l : Fin 16) : k1_pay11 (F := F) w (ln l) = 1 ↔ p (D + 4 * l.val + 1) := by
  show IntOp.cmpi .sgt (k1_pay2 (F := F) w (ln l)) 0#32 = 1 ↔ _
  rw [(pay_bit (F := F) hw l).2.1, sgt_bit]
/-- The third store writes the lanes whose third byte is set. -/
theorem mask3 {w : IVec S16 32} {D : ℕ} (hw : TripWords p D w) (l : Fin 16) : k1_pay14 (k1_pay3 (F := F) w) (ln l) = 1 ↔ p (D + 4 * l.val + 2) := by
  show IntOp.cmpi .sgt (k1_pay3 (F := F) w (ln l)) 0#32 = 1 ↔ _
  rw [(pay_bit (F := F) hw l).2.2.1, sgt_bit]
/-- The fourth store writes the lanes whose fourth byte is set. -/
theorem mask4 {w : IVec S16 32} {D : ℕ} (hw : TripWords p D w) (l : Fin 16) : k1_pay17 (k1_pay4 (F := F) w) (ln l) = 1 ↔ p (D + 4 * l.val + 3) := by
  show IntOp.cmpi .sgt (k1_pay4 (F := F) w (ln l)) 0#32 = 1 ↔ _
  rw [(pay_bit (F := F) hw l).2.2.2, sgt_bit]

/-! ## The list -/

/-- After the first `D` points: every point within the radius among them stands at its rank, and the first thirty-two
    places no rank reaches yet are zero. -/
def Listed (p : ℕ → Prop) [DecidablePred p] (D : ℕ) (f : S544.Idx → BitVec 32) : Prop :=
  (∀ m < D, p m → ∀ j : S544.Idx, (j 0).val = Nat.count p m → f j = BitVec.ofNat 32 m)
    ∧ ∀ j : S544.Idx, (j 0).val < 32 → Nat.count p D ≤ (j 0).val → f j = 0#32

/-- The same with the first `c` points of each of a trip's words written. -/
def ListedTo (p : ℕ → Prop) [DecidablePred p] (D c : ℕ) (f : S544.Idx → BitVec 32) : Prop :=
  (∀ m < D + 64, (m < D ∨ (m - D) % 4 < c) → p m → ∀ j : S544.Idx, (j 0).val = Nat.count p m → f j = BitVec.ofNat 32 m)
    ∧ ∀ j : S544.Idx, (j 0).val < 32 → Nat.count p (D + 64) ≤ (j 0).val → f j = 0#32

/-- Nothing is listed at first. -/
theorem Listed.start {D : ℕ} {f : S544.Idx → BitVec 32} (h : Listed p D f) : ListedTo p D 0 f :=
  ⟨fun m _ hm => h.1 m (hm.resolve_right (Nat.not_lt_zero _)), fun j hj hc => h.2 j hj ((Nat.count_monotone p (Nat.le_add_right D 64)).trans hc)⟩

/-- All lanes done, the block is listed. -/
theorem ListedTo.finish {D : ℕ} {f : S544.Idx → BitVec 32} (h : ListedTo p D 4 f) : Listed p (D + 64) f :=
  ⟨fun m hm => h.1 m hm (.inr (Nat.mod_lt _ (by omega))), h.2⟩

/-- One scatter of a trip writes one more point of each word. -/
theorem ListedTo.scatter {F : FTy → Type} [FloatOps F] {D c : ℕ} (hc : c < 4) {f : Vec F S544 .i32} (h : ListedTo p D c f) {ix : IVec S16 32} {v : Vec F S16 .i32} {mask : IVec S16 1}
    (hb : ∀ a x, ((![ix] : Fin 1 → IVec S16 32) a x).toNat < S544.size a)
    (hix : ∀ l : Fin 16, (ix (ln l)).toNat = Nat.count p (D + 4 * l.val + c)) (hv : ∀ l : Fin 16, v (ln l) = BitVec.ofNat 32 (D + 4 * l.val + c))
    (hm : ∀ l : Fin 16, mask (ln l) = 1 ↔ p (D + 4 * l.val + c)) :
    ListedTo p D (c + 1) (storeIdx f ![ix] v mask false hb) := by
  refine ⟨fun m hmD hcl hp j hj => ?_, fun j hj hcnt => ?_⟩
  · rcases storeIdx_cases f ix v mask hb j with ⟨l, hx, hxj, e⟩ | ⟨hno, e⟩
    · have hpx := (hm _).mp hx
      have : D + 4 * l.val + c = m := Nat.count_injective hpx hp (by rw [← hix, hxj, hj])
      rw [e, hv, this]
    · by_cases hold : m < D ∨ (m - D) % 4 < c
      · rw [e]; exact h.1 m hmD hold hp j hj
      · exfalso
        have hl : (m - D) / 4 < 16 := by omega
        have hme : D + 4 * (⟨(m - D) / 4, hl⟩ : Fin 16).val + c = m := by simp only; omega
        refine hno ⟨(m - D) / 4, hl⟩ ((hm _).mpr (by rw [hme]; exact hp)) ?_
        rw [hix, hme, hj]
  · rcases storeIdx_cases f ix v mask hb j with ⟨l, hx, hxj, e⟩ | ⟨hno, e⟩
    · exfalso
      have hpx := (hm _).mp hx
      rw [hix] at hxj
      have h1 : Nat.count p (D + 4 * l.val + c) < Nat.count p (D + 4 * l.val + c + 1) := by rw [Nat.count_succ, if_pos hpx]; omega
      have hx16 : l.val < 16 := l.isLt
      have h2 := Nat.count_monotone p (show D + 4 * l.val + c + 1 ≤ D + 64 by omega)
      omega
    · rw [e]; exact h.2 j hj hcnt

/-- The counter holds the count. -/
theorem toNat_cw {n : ℕ} (h : n ≤ 8192) : (cw p n).toNat = Nat.count p n := by
  have := Nat.count_le p (n := n)
  unfold cw; rw [BitVec.toNat_ofNat]; exact Nat.mod_eq_of_lt (by omega)

/-- The list starts empty over zeros. -/
theorem Listed.zero {f : S544.Idx → BitVec 32} (h : ∀ j : S544.Idx, (j 0).val < 32 → f j = 0#32) : Listed p 0 f :=
  ⟨fun m hm => absurd hm (Nat.not_lt_zero _), fun j hj _ => h j hj⟩

/-! ## What a query reads of its list -/

/-- Every rank below the count is some point's. -/
theorem exists_rank {D r : ℕ} (h : r < Nat.count p D) : ∃ m, m < D ∧ p m ∧ Nat.count p m = r := by
  induction D with
  | zero => rw [Nat.count_zero] at h; omega
  | succ D ih =>
    by_cases hr : r < Nat.count p D
    · obtain ⟨m, hm, hp, hc⟩ := ih hr; exact ⟨m, by omega, hp, hc⟩
    · rw [Nat.count_succ] at h
      by_cases hp : p D
      · rw [if_pos hp] at h; exact ⟨D, by omega, hp, by omega⟩
      · rw [if_neg hp] at h; omega

/-- Fewer are marked before a marked number than before a bound above it. -/
theorem count_lt {D m : ℕ} (hm : m < D) (hp : p m) : Nat.count p m < Nat.count p D := Nat.count_strict_mono hp hm

open Classical in
/-- The point a query's `r`-th result reads: the one of rank `r`, or, fewer being within the radius, the first of them,
    or, none being, point 0. -/
def sel (p : ℕ → Prop) [DecidablePred p] (r : ℕ) : ℕ :=
  if h : ∃ m, m < 8192 ∧ p m ∧ Nat.count p m = r then h.choose
  else if h : ∃ m, m < 8192 ∧ p m ∧ Nat.count p m = 0 then h.choose else 0

/-- The marked number of rank `r` is the one selected. -/
theorem sel_of_rank {r m : ℕ} (hm : m < 8192) (hp : p m) (hr : Nat.count p m = r) : sel p r = m := by
  have h : ∃ m, m < 8192 ∧ p m ∧ Nat.count p m = r := ⟨m, hm, hp, hr⟩
  unfold sel; rw [dif_pos h]
  exact Nat.count_injective h.choose_spec.2.1 hp (by rw [h.choose_spec.2.2, hr])
/-- Where at most `r` are marked, the first of them is selected. -/
theorem sel_of_first {r m : ℕ} (hm : m < 8192) (hp : p m) (h0 : Nat.count p m = 0) (hr : Nat.count p 8192 ≤ r) : sel p r = m := by
  have hn : ¬ ∃ m, m < 8192 ∧ p m ∧ Nat.count p m = r := by
    rintro ⟨k, hk, hpk, hc⟩; have := count_lt hk hpk; omega
  have h : ∃ m, m < 8192 ∧ p m ∧ Nat.count p m = 0 := ⟨m, hm, hp, h0⟩
  unfold sel; rw [dif_neg hn, dif_pos h]
  exact Nat.count_injective h.choose_spec.2.1 hp (by rw [h.choose_spec.2.2, h0])
/-- Where none is marked, 0 is selected. -/
theorem sel_of_none {r : ℕ} (h0 : Nat.count p 8192 = 0) : sel p r = 0 := by
  have hn (k : ℕ) : ¬ ∃ m, m < 8192 ∧ p m ∧ Nat.count p m = k := by
    rintro ⟨k, hk, hpk, hc⟩; have := count_lt hk hpk; omega
  unfold sel; rw [dif_neg (hn _), dif_neg (hn _)]

/-- What is selected is a point. -/
theorem sel_lt (r : ℕ) : sel p r < 8192 := by
  unfold sel; split
  · rename_i h; exact h.choose_spec.1
  · split
    · rename_i h; exact h.choose_spec.1
    · omega

/-- Which is what the list gives, all points seen or thirty-two found. -/
theorem Listed.sel_eq {D : ℕ} (hD : D ≤ 8192) (hend : D = 8192 ∨ 32 ≤ Nat.count p D) {f : S544.Idx → BitVec 32} (h : Listed p D f)
    (r : ℕ) (hr : r < 32) (jr j0 : S544.Idx) (hjr : (jr 0).val = r) (hj0 : (j0 0).val = 0) :
    (if (BitVec.ofNat 32 r).toInt < (cw p D).toInt then f jr else f j0) = BitVec.ofNat 32 (sel p r) := by
  have hcw : (cw p D).toInt = Nat.count p D := Idealize.ShloMosaic.WordArith.toInt_ofNat_small _ (by have := Nat.count_le p (n := D); omega)
  have hrI : (BitVec.ofNat 32 r).toInt = r := Idealize.ShloMosaic.WordArith.toInt_ofNat_small _ (by omega)
  rw [hcw, hrI]
  by_cases hrc : r < Nat.count p D
  · rw [if_pos (by exact_mod_cast hrc)]
    obtain ⟨m, hm, hp, hc⟩ := exists_rank hrc
    rw [h.1 m hm hp jr (by omega), sel_of_rank (by omega) hp hc]
  · rw [if_neg (by exact_mod_cast hrc)]
    have hD' : D = 8192 := hend.resolve_right (by omega)
    subst hD'
    by_cases h0 : 0 < Nat.count p 8192
    · obtain ⟨m, hm, hp, hc⟩ := exists_rank h0
      rw [h.1 m hm hp j0 (by omega), sel_of_first (by omega) hp hc (by omega)]
    · rw [h.2 j0 (by omega) (by omega), sel_of_none (by omega)]

end Cert.Proof.Grp
-- ==== Proof.Own.Trip.lean ====
/-
  One trip of the innermost loop of the grouped kernel: sixteen mask words, four scatters into the list.
-/
module

public import proofs.«01_k».proof.Proof.Own.Compact

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S12x8192 EltTy.f32)
local notation "qV" => (Memref.whole Cert.KernelIdeal.main_v6_scv : Memref Cert.KernelIdeal.sig Kind.scVector Space.hbm Cert.KernelIdeal.S12288 EltTy.f32)
local notation "mV" => (Memref.whole Cert.KernelIdeal.main_v3_scv : Memref Cert.KernelIdeal.sig Kind.scVector Space.hbm Cert.KernelIdeal.S4096x16x128 EltTy.i32)
local notation "oV" => (Memref.whole Cert.KernelIdeal.main_v7_scv : Memref Cert.KernelIdeal.sig Kind.scVector Space.hbm Cert.KernelIdeal.S12288x32 EltTy.f32)
local notation "b0" => (Memref.whole Cert.KernelIdeal.cc1_scratch0 : Memref Cert.KernelIdeal.sig Kind.scVector Space.vmem Cert.KernelIdeal.S8192 EltTy.f32)
local notation "b1" => (Memref.whole Cert.KernelIdeal.cc1_scratch1 : Memref Cert.KernelIdeal.sig Kind.scVector Space.vmem Cert.KernelIdeal.S8192 EltTy.f32)
local notation "b2" => (Memref.whole Cert.KernelIdeal.cc1_scratch2 : Memref Cert.KernelIdeal.sig Kind.scVector Space.vmem Cert.KernelIdeal.S8192 EltTy.f32)
local notation "b3" => (Memref.whole Cert.KernelIdeal.cc1_scratch3 : Memref Cert.KernelIdeal.sig Kind.scVector Space.vmem Cert.KernelIdeal.S384 EltTy.f32)
local notation "b4" => (Memref.whole Cert.KernelIdeal.cc1_scratch4 : Memref Cert.KernelIdeal.sig Kind.scVector Space.vmem Cert.KernelIdeal.S128 EltTy.i32)
local notation "b5" => (Memref.whole Cert.KernelIdeal.cc1_scratch5 : Memref Cert.KernelIdeal.sig Kind.scVector Space.vmem Cert.KernelIdeal.S544 EltTy.i32)
local notation "b6" => (Memref.whole Cert.KernelIdeal.cc1_scratch6 : Memref Cert.KernelIdeal.sig Kind.scVector Space.vmem Cert.KernelIdeal.S3x128x32 EltTy.f32)
local notation "b7" => (Memref.whole Cert.KernelIdeal.cc1_scratch7 : Memref Cert.KernelIdeal.sig Kind.scVector Space.smem Cert.KernelIdeal.S1 EltTy.i32)

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev VT (d : Dev nD) (L : grid1.Coords) : Thread nD τ := V d (cV L) (jV L)

/-- A word vector's index of the mask-word scratch, of the list. -/
abbrev i128 (k : ℕ) : S128.Idx := fun a => ⟨k % 128, by rw [Fin.eq_zero a]; exact Nat.mod_lt _ (by decide)⟩

/-- A scatter into the list. -/
theorem wp_scatter_b5 {α : Type} {Q : α → sProp 𝕄} {ix : IVec S16 32} {v : Vec F S16 .i32} {mask : IVec S16 1}
    {h : ∀ a x, ((![ix] : Fin 1 → IVec S16 32) a x).toNat < S544.size a} {hs : ((b5).access (.whole S544)).Stores Finset.univ}
    {k : PUnit → Prog (TpuEff nD τ sig (Elt F) Λ₀ (VT d L).2) α} {f : Buf (Elt F) ((b5).view.loc (VT d L))} :
    (iprop((b5).view.loc (VT d L) ↦{fullShare} f) : sProp 𝕄)
      ⊢ iprop((((b5).view.loc (VT d L) ↦{fullShare} (storeIdx (F := F) (e := .i32) f ![ix] v mask false h : Buf (Elt F) ((b5).view.loc (VT d L))))
          -∗ wp frame (wpE (defs₀ (F := F)) 𝒱₀ (VT d L) none) Set.univ (k ⟨⟩) Q)
        -∗ wp frame (wpE (defs₀ (F := F)) 𝒱₀ (VT d L) none) Set.univ (SparseCore.vectorStoreIdx b5 ![ix] v mask false h hs >>= k) Q) := by
  have := SparseCore.wp_vectorStoreIdx (defs := defs₀ (F := F)) (Q := Q) 𝒱₀ (VT d L) none Set.univ (base := b5) (idxs := ![ix]) (v := v) (mask := mask) (add := false) (h := h) (hs := hs)
    (k := k) (f := f) (Ix := HIx 1) (Lvl := ℕ) (U := UU) (Name := ℕ)
  erw [Memref.set_access_whole cc1_scratch5, Memref.read_access_whole _ cc1_scratch5 f, Memref.write_access_whole_univ _ cc1_scratch5 f _] at this
  exact this

/-- A trip's point numbers. -/
theorem pay8_eq (t2 : Fin k1_t2_loop.trips) (t3 : Fin k1_t3_loop.trips) (l : Fin 16) :
    k1_pay8 k1_pay26 (Scalar.muli (Scf.iv 0#32 1#32 t2) 512#32) 0#32 1#32 t3 (ln l) = BitVec.ofNat 32 (512 * t2.val + 64 * t3.val + 4 * l.val) := by
  show ((0#32 + BitVec.ofNat 32 t2.val * 1#32) * 512#32 + (0#32 + BitVec.ofNat 32 t3.val * 1#32) * 64#32) + BitVec.ofNat 32 (0 * 16 + l.val) * 4#32 = _
  simp only [BitVec.ofNat_add, BitVec.ofNat_mul]
  simp [BitVec.mul_comm]

/-- The second loop takes 16 trips. -/
theorem trips2 : k1_t2_loop.trips = 16 := by decide
/-- The third loop takes 8 trips. -/
theorem trips3 : k1_t3_loop.trips = 8 := by decide

/-- A trip's words are the mask row's sixteen from its own on. -/
theorem trip_read (t3 : Fin k1_t3_loop.trips) (g : Buf (Elt F) ((b4).view.loc (VT d L))) (l : Fin 16) :
    View.readAt (Elt F) (b4).view (Rect.unit (s := S128) (k1_off4 t3) S16.size (k1_off4_inb t3)).toLoadRect g (ln l) = g (i128 (16 * t3.val + l.val)) := by
  rw [View.readAt_apply]
  have h3 := t3.isLt
  simp only [show k1_t3_loop.trips = 8 by decide] at h3
  have hl := l.isLt
  refine congrArg g (funext fun a => Fin.ext ?_)
  rw [Fin.eq_zero a]
  show k1_off4 t3 0 + 1 * l.val = (16 * t3.val + l.val) % 128
  rw [k1_off4_eq]
  show 16 * t3.val + 1 * l.val = _
  omega

/-- One trip of the third loop, over 64 points, keeps its invariant. -/
theorem t3_step (p : ℕ → Prop) [DecidablePred p] (v1 : BitVec 32) (k1_hw5 : k1_chk5 (broadcast S16 0#32)) (t1 : Fin k1_t1_loop.trips) (t2 : Fin k1_t2_loop.trips)
    (v130 : Elt F .i32) (h1 : k1_cond1 v130 = 1#1)
    (t3 : Fin k1_t3_loop.trips) (g : Buf (Elt F) ((b4).view.loc (VT d L))) (f : Buf (Elt F) ((b5).view.loc (VT d L)))
    (hbase : Nat.count p (512 * t2.val) < 32)
    (hg : TripWords p (512 * t2.val + 64 * t3.val) (fun x => g (i128 (16 * t3.val + (x 0).val))))
    (hf : Listed p (512 * t2.val + 64 * t3.val) f) :
    (iprop(((b4).view.loc (VT d L) ↦{fullShare} g) ∗ ((b5).view.loc (VT d L) ↦{fullShare} f)) : sProp 𝕄)
      ⊢ wp frame (wpE (defs₀ (F := F)) 𝒱₀ (VT d L) none) Set.univ
          (k1_t3_body (F := F) L xV (Memref.isWhole_whole _) qV (Memref.isWhole_whole _) mV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) b7 (Memref.isWhole_whole _)
            cc1_scoped0 cc1_scoped1 cc1_scoped2 cc1_scoped3 cc1_scoped4 cc1_scoped5 cc1_scoped6 cc1_scoped7
            v1 (iota .scVector S16 32 [0] iota_S16_d0_w32_scVector) k1_pay26 (broadcast S16 0#32) k1_hw5 0#32 1#32 t1 v130 h1
            (Scalar.muli (Scf.iv 0#32 1#32 t2) 512#32) t3 (cw p (512 * t2.val + 64 * t3.val)))
          fun r => iprop(⌜r = cw p (512 * t2.val + 64 * (t3.val + 1))⌝ ∗ ((b4).view.loc (VT d L) ↦{fullShare} g)
            ∗ ∃ f' : Buf (Elt F) ((b5).view.loc (VT d L)), ⌜Listed p (512 * t2.val + 64 * (t3.val + 1)) f'⌝ ∗ ((b5).view.loc (VT d L) ↦{fullShare} f')) := by
  unfold k1_t3_body
  rw [k1_part1_eq_skeleton]; unfold k1_part1_skel
  iintro ⟨Hg, Hf⟩
  have hw : TripWords p (512 * t2.val + 64 * t3.val) (View.readAt (Elt F) (b4).view (Rect.unit (s := S128) (k1_off4 t3) S16.size (k1_off4_inb t3)).toLoadRect g) :=
    fun l c hc => by rw [trip_read]; exact hg l c hc
  have h2 := t2.isLt; have h3 := t3.isLt
  simp only [trips2] at h2
  simp only [trips3] at h3
  have hcn (l : Fin 16) (c : ℕ) (hc : c < 4) : (cw p (512 * t2.val + 64 * t3.val + 4 * l.val + c)).toNat = Nat.count p (512 * t2.val + 64 * t3.val + 4 * l.val + c) :=
    toNat_cw (by have := l.isLt; omega)
  have hlt (l : Fin 16) (c : ℕ) (hc : c < 4) : (cw p (512 * t2.val + 64 * t3.val + 4 * l.val + c)).toNat < 544 := by
    rw [hcn l c hc]
    have h := count_le_add p (512 * t2.val) (64 * t3.val + 4 * l.val + c)
    rw [show 512 * t2.val + (64 * t3.val + 4 * l.val + c) = 512 * t2.val + 64 * t3.val + 4 * l.val + c by omega] at h
    have := l.isLt; omega
  have hchk (c : ℕ) (hc : c < 4) (ix : IVec S16 32) (hix : ∀ l, ix (ln l) = cw p (512 * t2.val + 64 * t3.val + 4 * l.val + c)) :
      ∀ a x, ((![ix] : Fin 1 → IVec S16 32) a x).toNat < S544.size a := by
    intro a x
    obtain ⟨l, rfl⟩ := exists_ln x
    rw [Fin.eq_zero a]
    show (ix (ln l)).toNat < 544
    rw [hix]; exact hlt l c hc
  have hv0 := pay8_eq t2 t3
  sl_exec
  rw [wp_assume_of _ _ _ _ ?h1]
  case h1 => exact fun _ => hchk 0 (by omega) _ fun l => pay7_eq hw l
  rw [Prog.bind_assoc]
  iapply wp_scatter_b5 $$ Hf
  iintro Hf
  sl_exec
  rw [wp_assume_of _ _ _ _ ?h2]
  case h2 => exact fun _ => hchk 1 (by omega) _ fun l => idx2_eq hw l
  rw [Prog.bind_assoc]
  iapply wp_scatter_b5 $$ Hf
  iintro Hf
  sl_exec
  rw [wp_assume_of _ _ _ _ ?h3]
  case h3 => exact fun _ => hchk 2 (by omega) _ fun l => idx3_eq hw l
  sl_exec
  iapply wp_scatter_b5 $$ Hf
  iintro Hf
  sl_exec
  rw [wp_assume_of _ _ _ _ ?h4]
  case h4 => exact fun _ => hchk 3 (by omega) _ fun l => idx4_eq hw l
  sl_exec
  iapply wp_scatter_b5 $$ Hf
  iintro Hf
  sl_exec
  have hb (c : ℕ) (l : Fin 16) : BitVec.ofNat 32 (512 * t2.val + 64 * t3.val + 4 * l.val) + BitVec.ofNat 32 c = BitVec.ofNat 32 (512 * t2.val + 64 * t3.val + 4 * l.val + c) := (BitVec.ofNat_add _ _).symm
  rw [wp_ret]; imodintro
  isplitr
  · ipureintro
    exact (cnt_next hw).trans (congrArg (cw p) (by omega))
  isplitl [Hg]
  · iexact Hg
  iexists _
  isplitr
  rotate_left
  · iexact Hf
  ipureintro
  rw [show 512 * t2.val + 64 * (t3.val + 1) = 512 * t2.val + 64 * t3.val + 64 by omega]
  refine ListedTo.finish (ListedTo.scatter (F := F) (by omega) (ListedTo.scatter (F := F) (by omega) (ListedTo.scatter (F := F) (by omega) (ListedTo.scatter (F := F) (by omega) hf.start _ ?_ ?_ ?_) _ ?_ ?_ ?_) _ ?_ ?_ ?_) _ ?_ ?_ ?_)
  · intro l; exact (congrArg BitVec.toNat (pay7_eq hw l)).trans (hcn l 0 (by omega))
  · exact hv0
  · exact mask1 hw
  · intro l; exact (congrArg BitVec.toNat (idx2_eq hw l)).trans (hcn l 1 (by omega))
  · intro l; rw [← hb, ← hv0]; rfl
  · exact mask2 hw
  · intro l; exact (congrArg BitVec.toNat (idx3_eq hw l)).trans (hcn l 2 (by omega))
  · intro l; rw [← hb, ← hv0]; rfl
  · exact mask3 hw
  · intro l; exact (congrArg BitVec.toNat (idx4_eq hw l)).trans (hcn l 3 (by omega))
  · intro l; rw [← hb, ← hv0]; rfl
  · exact mask4 hw

end Tile
end Cert.Proof.Grp
-- ==== Proof.Own.Block.lean ====
/-
  One block of a query's mask words: the row fetched, its eight trips, the count written back.
-/
module

public import proofs.«01_k».proof.Proof.Own.Trip

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S12x8192 EltTy.f32)
local notation "qV" => (Memref.whole Cert.KernelIdeal.main_v6_scv : Memref Cert.KernelIdeal.sig Kind.scVector Space.hbm Cert.KernelIdeal.S12288 EltTy.f32)
local notation "mV" => (Memref.whole Cert.KernelIdeal.main_v3_scv : Memref Cert.KernelIdeal.sig Kind.scVector Space.hbm Cert.KernelIdeal.S4096x16x128 EltTy.i32)
local notation "oV" => (Memref.whole Cert.KernelIdeal.main_v7_scv : Memref Cert.KernelIdeal.sig Kind.scVector Space.hbm Cert.KernelIdeal.S12288x32 EltTy.f32)
local notation "b0" => (Memref.whole Cert.KernelIdeal.cc1_scratch0 : Memref Cert.KernelIdeal.sig Kind.scVector Space.vmem Cert.KernelIdeal.S8192 EltTy.f32)
local notation "b1" => (Memref.whole Cert.KernelIdeal.cc1_scratch1 : Memref Cert.KernelIdeal.sig Kind.scVector Space.vmem Cert.KernelIdeal.S8192 EltTy.f32)
local notation "b2" => (Memref.whole Cert.KernelIdeal.cc1_scratch2 : Memref Cert.KernelIdeal.sig Kind.scVector Space.vmem Cert.KernelIdeal.S8192 EltTy.f32)
local notation "b3" => (Memref.whole Cert.KernelIdeal.cc1_scratch3 : Memref Cert.KernelIdeal.sig Kind.scVector Space.vmem Cert.KernelIdeal.S384 EltTy.f32)
local notation "b4" => (Memref.whole Cert.KernelIdeal.cc1_scratch4 : Memref Cert.KernelIdeal.sig Kind.scVector Space.vmem Cert.KernelIdeal.S128 EltTy.i32)
local notation "b5" => (Memref.whole Cert.KernelIdeal.cc1_scratch5 : Memref Cert.KernelIdeal.sig Kind.scVector Space.vmem Cert.KernelIdeal.S544 EltTy.i32)
local notation "b6" => (Memref.whole Cert.KernelIdeal.cc1_scratch6 : Memref Cert.KernelIdeal.sig Kind.scVector Space.vmem Cert.KernelIdeal.S3x128x32 EltTy.f32)
local notation "b7" => (Memref.whole Cert.KernelIdeal.cc1_scratch7 : Memref Cert.KernelIdeal.sig Kind.scVector Space.smem Cert.KernelIdeal.S1 EltTy.i32)

section Tile

variable (d : Dev nD) (L : grid1.Coords)

/-- The mask word of query `q` at word `w` of block `s`. -/
abbrev i3 (q s w : ℕ) : S4096x16x128.Idx
  | 0 => ⟨q % 4096, Nat.mod_lt _ (by decide)⟩
  | 1 => ⟨s % 16, Nat.mod_lt _ (by decide)⟩
  | 2 => ⟨w % 128, Nat.mod_lt _ (by decide)⟩

/-- Point `n` is within the radius of query `q`, by the mask words: four points to a word, 512 to a block. -/
def mbit (mw : S4096x16x128.Idx → BitVec 32) (q n : ℕ) : Prop :=
  (mw (i3 q (n / 512) (n % 512 / 4))).getLsbD (8 * (n % 4)) = true

instance (mw : S4096x16x128.Idx → BitVec 32) (q : ℕ) : DecidablePred (mbit mw q) := fun n => by unfold mbit; infer_instance

/-- The query of trip `t1` of the tile's loop. -/
abbrev qn (L : grid1.Coords) (t1 : ℕ) : ℕ := 256 * (L 1).val + 128 * (L 0).val + t1

/-- The loop over a query's sixteen blocks: the list is that of the first `D` points, the count word beside it, and `D` is
    all the points of the blocks passed unless thirty-two are found. -/
def inv2 (O : CellTallies nD τ sig (HIx 1)) (qm : PosShare TreeShare) (mw : Buf (Elt F) ((mV).view.loc (VT d L))) (q t2 : ℕ) (_ : Unit) : sProp 𝕄 :=
  iprop(Transfers.MayWaits (VT d L) (default : HIx 1) O
    ∗ ((mV).view.loc (VT d L) ↦{qm} mw)
    ∗ (∃ g : Buf (Elt F) ((b4).view.loc (VT d L)), (b4).view.loc (VT d L) ↦{fullShare} g)
    ∗ (∃ (D : ℕ) (f : Buf (Elt F) ((b5).view.loc (VT d L))) (s : Buf (Elt F) ((b7).view.loc (VT d L))),
        ⌜D ≤ 8192 ∧ Listed (mbit mw q) D f ∧ (∀ x, s x = cw (mbit mw q) D) ∧ (D = 512 * t2 ∨ 32 ≤ Nat.count (mbit mw q) D)⌝
          ∗ ((b5).view.loc (VT d L) ↦{fullShare} f) ∗ ((b7).view.loc (VT d L) ↦{fullShare} s))
    ∗ semVal (VT d L, SemLoc.dma cc1_scoped4.sem) 0
    ∗ ∃ W, owes (VT d L) O W)

/-- The loop over a block's eight trips. -/
def inv3 (g : Buf (Elt F) ((b4).view.loc (VT d L))) (p : ℕ → Prop) [DecidablePred p] (t2 t3 : ℕ) (r : Elt F .i32) : sProp 𝕄 :=
  iprop(⌜r = cw p (512 * t2 + 64 * t3)⌝ ∗ ((b4).view.loc (VT d L) ↦{fullShare} g)
    ∗ ∃ f : Buf (Elt F) ((b5).view.loc (VT d L)), ⌜Listed p (512 * t2 + 64 * t3) f⌝ ∗ ((b5).view.loc (VT d L) ↦{fullShare} f))

/-- The loop's condition is that fewer than thirty-two points are found. -/
theorem cond1_iff (p : ℕ → Prop) [DecidablePred p] {n : ℕ} (hn : n ≤ 8192) : k1_cond1 (cw p n) = 1#1 ↔ Nat.count p n < 32 := by
  have h := Nat.count_le p (n := n)
  have hcw : (cw p n).toInt = Nat.count p n := Idealize.ShloMosaic.WordArith.toInt_ofNat_small _ (by omega)
  have e : k1_cond1 (cw p n) = if (cw p n).toInt < 32 then 1#1 else 0#1 := by
    show IntOp.cmpi .ne ((IntOp.cmpi .slt (cw p n) 32#32).setWidth 32) 0#32 = _
    have : IntOp.cmpi .slt (cw p n) 32#32 = if (cw p n).toInt < 32 then 1#1 else 0#1 := by
      show BitVec.ofBool (BitVec.slt _ _) = _
      simp only [BitVec.slt, show (32#32 : BitVec 32).toInt = 32 by decide]
      by_cases h : (cw p n).toInt < 32
      · rw [if_pos h, decide_eq_true h]; rfl
      · rw [if_neg h, decide_eq_false h]; rfl
    rw [this]; split <;> decide
  rw [e, hcw]
  constructor
  · intro h; split at h
    · omega
    · exact absurd h (by decide)
  · intro h; rw [if_pos (by omega)]

/-- The first loop takes 128 trips. -/
theorem trips1 : k1_t1_loop.trips = 128 := by decide

/-- A tile's query is one of the 4096. -/
theorem qn_lt (L : grid1.Coords) {t1 : ℕ} (h : t1 < 128) : qn L t1 < 4096 := by
  have h0 : (L 0).val < 2 := (L 0).isLt
  have h1 : (L 1).val < 16 := (L 1).isLt
  unfold qn; omega

/-- The row a block fetches: the query's mask words of that block. -/
theorem row_read (t1 : Fin k1_t1_loop.trips) (t2 : Fin k1_t2_loop.trips) (mw : Buf (Elt F) ((mV).view.loc (VT d L))) (x : S128.Idx) :
    (((mV).slice (Rect.unit (s := S4096x16x128) (k1_off3 L t1 t2) S1x1x128.size (k1_off3_inb L t1 t2)) (fun _ => rfl)).squeeze S128 squeezes_S1x1x128_S128).view.read (Elt F) mw x
      = mw (i3 (qn L t1.val) t2.val (x 0).val) := by
  have ht1 := t1.isLt; have ht2 := t2.isLt
  simp only [trips1] at ht1
  simp only [trips2] at ht2
  have hq := qn_lt L ht1
  have hx : (x 0).val < 128 := (x 0).isLt
  let k : S1x1x128.Idx := fun | 0 => ⟨0, by decide⟩ | 1 => ⟨0, by decide⟩ | 2 => ⟨(x 0).val, hx⟩
  rw [Memref.read_squeeze_slice (mV) _ _ _ (show S1x1x128.ShapeCasts S128 by decide), shapeCast_apply _ _ x k (by
    rw [Shape.rowMajor_val_one, Shape.rowMajor_val_three]; show (0 * 1 + 0) * 128 + (x 0).val = _; omega)]
  rw [View.readAt_apply]
  refine congrArg mw (funext fun a => Fin.ext ?_)
  have e := congrFun (k1_off3_eq L t1 t2) a
  show k1_off3 L t1 t2 a + 1 * (k a).val = _
  rw [e]
  match a with
  | 0 => show 256 * (L 1).val + 128 * (L 0).val + t1.val + 1 * 0 = qn L t1.val % 4096; rw [Nat.mod_eq_of_lt hq]; rfl
  | 1 => show t2.val + 1 * 0 = t2.val % 16; omega
  | 2 => show 0 + 1 * (x 0).val = (x 0).val % 128; omega

/-- The words of a trip of a block. -/
theorem row_trip (mw : S4096x16x128.Idx → BitVec 32) (q t2 t3 : ℕ) (ht3 : t3 < 8) :
    TripWords (mbit mw q) (512 * t2 + 64 * t3) (fun x => mw (i3 q t2 (i128 (16 * t3 + (x 0).val) 0).val)) := by
  intro l c hc
  have hl := l.isLt
  unfold mbit
  rw [show (512 * t2 + 64 * t3 + 4 * l.val + c) / 512 = t2 by omega, show (512 * t2 + 64 * t3 + 4 * l.val + c) % 512 / 4 = (16 * t3 + l.val) % 128 by omega,
    show (512 * t2 + 64 * t3 + 4 * l.val + c) % 4 = c by omega]
  exact Iff.rfl

/-- One trip of the second loop, over 512 points, keeps its invariant. -/
theorem t2_step (O : CellTallies nD τ sig (HIx 1)) (qm : PosShare TreeShare) (mw : Buf (Elt F) ((mV).view.loc (VT d L)))
    (v1 : BitVec 32) (k1_hw5 : k1_chk5 (broadcast S16 0#32)) (t1 : Fin k1_t1_loop.trips) (t2 : Fin k1_t2_loop.trips) :
    inv2 (F := F) d L O qm mw (qn L t1.val) t2.val ()
      ⊢ wp frame (wpE (defs₀ (F := F)) 𝒱₀ (VT d L) none) Set.univ
          (k1_t2_body (F := F) L xV (Memref.isWhole_whole _) qV (Memref.isWhole_whole _) mV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) b7 (Memref.isWhole_whole _)
            cc1_scoped0 cc1_scoped1 cc1_scoped2 cc1_scoped3 cc1_scoped4 cc1_scoped5 cc1_scoped6 cc1_scoped7
            v1 (iota .scVector S16 32 [0] iota_S16_d0_w32_scVector) k1_pay26 (broadcast S16 0#32) k1_hw5 0#32 1#32 t1 t2 ())
          fun r => inv2 (F := F) d L O qm mw (qn L t1.val) (t2.val + 1) r := by
  unfold k1_t2_body
  conv_lhs => unfold inv2
  iintro ⟨#Hmw, Hm, ⟨%g, Hg⟩, ⟨%D, %f, %s, %hD, Hf, Hs⟩, Hsem, %W, HO⟩
  obtain ⟨hD1, hL, hs, hend⟩ := hD
  sl_exec
  have hr : t2_step.sl.r d L s = cw (mbit mw (qn L t1.val)) D := hs _
  by_cases hc : k1_cond1 (t2_step.sl.r d L s) = 1#1
  · rw [dif_pos hc]
    have hcnt : Nat.count (mbit mw (qn L t1.val)) D < 32 := (cond1_iff _ hD1).mp (hr ▸ hc)
    obtain rfl : D = 512 * t2.val := hend.resolve_right (by omega)
    sl_exec (disch := exact View.amount_pos _ _ (show 0 < S128.numel by decide))
    have hrow : (View.write (Elt F) (b4).view g (t2_step.sl.dma0 d L mw t1 t2) Finset.univ : Buf (Elt F) ((b4).view.loc (VT d L)))
        = fun x => mw (i3 (qn L t1.val) t2.val (x 0).val) :=
      (View.write_whole_univ (Val := Elt F) cc1_scratch4 g _).trans (funext fun x => row_read d L t1 t2 mw x)
    rw [hrow]
    have ht2 := t2.isLt
    simp only [trips2] at ht2
    sl_for (inv3 (F := F) d L (fun x => mw (i3 (qn L t1.val) t2.val (x 0).val)) (mbit mw (qn L t1.val)) t2.val) $$ [Hg Hf]
    case region =>
      intro t3 r
      have ht3 := t3.isLt
      simp only [trips3] at ht3
      conv_lhs => unfold inv3
      iintro ⟨%hr3, Hg, ⟨%f, %hf, Hf⟩⟩
      obtain rfl := hr3
      iapply (t3_step (F := F) d L (mbit mw (qn L t1.val)) v1 k1_hw5 t1 t2 _ hc t3 (fun x => mw (i3 (qn L t1.val) t2.val (x 0).val)) f hcnt (row_trip mw _ _ _ ht3) hf)
      isplitl [Hg]; · iexact Hg
      iexact Hf
    · unfold inv3
      isplitr
      · ipureintro; exact hs _
      isplitl [Hg]; · iexact Hg
      iexists f
      isplitr
      · ipureintro; exact hL
      iexact Hf
    iintro %r HI
    unfold inv3
    icases HI with ⟨%hr3, Hg, ⟨%f', %hf', Hf⟩⟩
    obtain rfl := hr3
    sl_exec
    rw [wp_ret]; imodintro
    unfold inv2
    isplitr; · iexact Hmw
    isplitl [Hm]; · iexact Hm
    isplitl [Hg]; · iexists _; iexact Hg
    isplitl [Hf Hs]
    · iexists (512 * (t2.val + 1)); iexists f'; iexists _
      isplitr
      rotate_left
      · isplitl [Hf]; · iexact Hf
        iexact Hs
      · ipureintro
        refine ⟨by omega, hf', fun x => ?_, .inl rfl⟩
        exact View.read_writes_cons_unit_of_mem (Val := Elt F) (b7).view s inb_S1_S1_0 _ [] x x rfl (fun a => by
          match a with | 0 => exact (Nat.zero_add _).symm)
    isplitl [Hsem]; · iexact Hsem
    iexists _; iexact HO
  · rw [dif_neg hc]
    have hcnt : 32 ≤ Nat.count (mbit mw (qn L t1.val)) D := by
      by_contra h; exact hc (hr ▸ (cond1_iff _ hD1).mpr (by omega))
    sl_exec
    rw [wp_ret]; imodintro
    unfold inv2
    isplitr; · iexact Hmw
    isplitl [Hm]; · iexact Hm
    isplitl [Hg]; · iexists _; iexact Hg
    isplitl [Hf Hs]
    · iexists D; iexists f; iexists s
      isplitr
      · ipureintro; exact ⟨hD1, hL, hs, .inr hcnt⟩
      isplitl [Hf]; · iexact Hf
      iexact Hs
    isplitl [Hsem]; · iexact Hsem
    iexists _; iexact HO

end Tile
end Cert.Proof.Grp
-- ==== Proof.Own.Query.lean ====
/-
  One query: its blocks, then its list read, the neighbours gathered and the results stored.
-/
module

public import proofs.«01_k».proof.Proof.Own.Block

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S12x8192 EltTy.f32)
local notation "qV" => (Memref.whole Cert.KernelIdeal.main_v6_scv : Memref Cert.KernelIdeal.sig Kind.scVector Space.hbm Cert.KernelIdeal.S12288 EltTy.f32)
local notation "mV" => (Memref.whole Cert.KernelIdeal.main_v3_scv : Memref Cert.KernelIdeal.sig Kind.scVector Space.hbm Cert.KernelIdeal.S4096x16x128 EltTy.i32)
local notation "oV" => (Memref.whole Cert.KernelIdeal.main_v7_scv : Memref Cert.KernelIdeal.sig Kind.scVector Space.hbm Cert.KernelIdeal.S12288x32 EltTy.f32)
local notation "b0" => (Memref.whole Cert.KernelIdeal.cc1_scratch0 : Memref Cert.KernelIdeal.sig Kind.scVector Space.vmem Cert.KernelIdeal.S8192 EltTy.f32)
local notation "b1" => (Memref.whole Cert.KernelIdeal.cc1_scratch1 : Memref Cert.KernelIdeal.sig Kind.scVector Space.vmem Cert.KernelIdeal.S8192 EltTy.f32)
local notation "b2" => (Memref.whole Cert.KernelIdeal.cc1_scratch2 : Memref Cert.KernelIdeal.sig Kind.scVector Space.vmem Cert.KernelIdeal.S8192 EltTy.f32)
local notation "b3" => (Memref.whole Cert.KernelIdeal.cc1_scratch3 : Memref Cert.KernelIdeal.sig Kind.scVector Space.vmem Cert.KernelIdeal.S384 EltTy.f32)
local notation "b4" => (Memref.whole Cert.KernelIdeal.cc1_scratch4 : Memref Cert.KernelIdeal.sig Kind.scVector Space.vmem Cert.KernelIdeal.S128 EltTy.i32)
local notation "b5" => (Memref.whole Cert.KernelIdeal.cc1_scratch5 : Memref Cert.KernelIdeal.sig Kind.scVector Space.vmem Cert.KernelIdeal.S544 EltTy.i32)
local notation "b6" => (Memref.whole Cert.KernelIdeal.cc1_scratch6 : Memref Cert.KernelIdeal.sig Kind.scVector Space.vmem Cert.KernelIdeal.S3x128x32 EltTy.f32)
local notation "b7" => (Memref.whole Cert.KernelIdeal.cc1_scratch7 : Memref Cert.KernelIdeal.sig Kind.scVector Space.smem Cert.KernelIdeal.S1 EltTy.i32)

section Tile

variable (d : Dev nD) (L : grid1.Coords)

/-- An index of a coordinate row, of the tile's query coordinates. -/
abbrev i8192 (k : ℕ) : S8192.Idx := fun a => ⟨k % 8192, by rw [Fin.eq_zero a]; exact Nat.mod_lt _ (by decide)⟩
abbrev i384 (k : ℕ) : S384.Idx := fun a => ⟨k % 384, by rw [Fin.eq_zero a]; exact Nat.mod_lt _ (by decide)⟩

/-- A neighbour's coordinate relative to the query's, over the radius. -/
def rel (x q : F .f32) : F .f32 := FloatOps.divf (FloatOps.subf x q) (Scalar.ofBits .f32 0x3E4CCCCD#32)

/-- A gather out of a whole buffer. -/
theorem wp_gather_b5 {α : Type} {Q : α → sProp 𝕄} {ix : IVec S16 32}
    {h : ∀ a x, ((![ix] : Fin 1 → IVec S16 32) a x).toNat < S544.size a} {hl : (b5).view.Loads}
    {k : Vec F S16 .i32 → Prog (TpuEff nD τ sig (Elt F) Λ₀ (VT d L).2) α} {f : Buf (Elt F) ((b5).view.loc (VT d L))} :
    (iprop((b5).view.loc (VT d L) ↦{fullShare} f) : sProp 𝕄)
      ⊢ iprop((((b5).view.loc (VT d L) ↦{fullShare} f)
          -∗ wp frame (wpE (defs₀ (F := F)) 𝒱₀ (VT d L) none) Set.univ (k (loadIdx (F := F) (e := .i32) f ![ix] h)) Q)
        -∗ wp frame (wpE (defs₀ (F := F)) 𝒱₀ (VT d L) none) Set.univ (SparseCore.vectorLoadIdx b5 ![ix] h hl >>= k) Q) := by
  have := SparseCore.wp_vectorLoadIdx (defs := defs₀ (F := F)) (Q := Q) 𝒱₀ (VT d L) none Set.univ (base := b5) (idxs := ![ix]) (h := h) (hl := hl)
    (k := k) (S := Finset.univ) (q := fullShare) (f := f) (Ix := HIx 1) (Lvl := ℕ) (U := UU) (Name := ℕ) (Finset.subset_univ _)
  erw [Memref.read_access_whole _ cc1_scratch5 f] at this
  exact this

/-- A gather from the first coordinate row. -/
theorem wp_gather_b0 {α : Type} {Q : α → sProp 𝕄} {ix : IVec S16 32}
    {h : ∀ a x, ((![ix] : Fin 1 → IVec S16 32) a x).toNat < S8192.size a} {hl : (b0).view.Loads}
    {k : Vec F S16 .f32 → Prog (TpuEff nD τ sig (Elt F) Λ₀ (VT d L).2) α} {f : Buf (Elt F) ((b0).view.loc (VT d L))} :
    (iprop((b0).view.loc (VT d L) ↦{fullShare} f) : sProp 𝕄)
      ⊢ iprop((((b0).view.loc (VT d L) ↦{fullShare} f)
          -∗ wp frame (wpE (defs₀ (F := F)) 𝒱₀ (VT d L) none) Set.univ (k (loadIdx (F := F) (e := .f32) f ![ix] h)) Q)
        -∗ wp frame (wpE (defs₀ (F := F)) 𝒱₀ (VT d L) none) Set.univ (SparseCore.vectorLoadIdx b0 ![ix] h hl >>= k) Q) := by
  have := SparseCore.wp_vectorLoadIdx (defs := defs₀ (F := F)) (Q := Q) 𝒱₀ (VT d L) none Set.univ (base := b0) (idxs := ![ix]) (h := h) (hl := hl)
    (k := k) (S := Finset.univ) (q := fullShare) (f := f) (Ix := HIx 1) (Lvl := ℕ) (U := UU) (Name := ℕ) (Finset.subset_univ _)
  erw [Memref.read_access_whole _ cc1_scratch0 f] at this
  exact this

/-- A gather from the second coordinate row. -/
theorem wp_gather_b1 {α : Type} {Q : α → sProp 𝕄} {ix : IVec S16 32}
    {h : ∀ a x, ((![ix] : Fin 1 → IVec S16 32) a x).toNat < S8192.size a} {hl : (b1).view.Loads}
    {k : Vec F S16 .f32 → Prog (TpuEff nD τ sig (Elt F) Λ₀ (VT d L).2) α} {f : Buf (Elt F) ((b1).view.loc (VT d L))} :
    (iprop((b1).view.loc (VT d L) ↦{fullShare} f) : sProp 𝕄)
      ⊢ iprop((((b1).view.loc (VT d L) ↦{fullShare} f)
          -∗ wp frame (wpE (defs₀ (F := F)) 𝒱₀ (VT d L) none) Set.univ (k (loadIdx (F := F) (e := .f32) f ![ix] h)) Q)
        -∗ wp frame (wpE (defs₀ (F := F)) 𝒱₀ (VT d L) none) Set.univ (SparseCore.vectorLoadIdx b1 ![ix] h hl >>= k) Q) := by
  have := SparseCore.wp_vectorLoadIdx (defs := defs₀ (F := F)) (Q := Q) 𝒱₀ (VT d L) none Set.univ (base := b1) (idxs := ![ix]) (h := h) (hl := hl)
    (k := k) (S := Finset.univ) (q := fullShare) (f := f) (Ix := HIx 1) (Lvl := ℕ) (U := UU) (Name := ℕ) (Finset.subset_univ _)
  erw [Memref.read_access_whole _ cc1_scratch1 f] at this
  exact this

/-- A gather from the third coordinate row. -/
theorem wp_gather_b2 {α : Type} {Q : α → sProp 𝕄} {ix : IVec S16 32}
    {h : ∀ a x, ((![ix] : Fin 1 → IVec S16 32) a x).toNat < S8192.size a} {hl : (b2).view.Loads}
    {k : Vec F S16 .f32 → Prog (TpuEff nD τ sig (Elt F) Λ₀ (VT d L).2) α} {f : Buf (Elt F) ((b2).view.loc (VT d L))} :
    (iprop((b2).view.loc (VT d L) ↦{fullShare} f) : sProp 𝕄)
      ⊢ iprop((((b2).view.loc (VT d L) ↦{fullShare} f)
          -∗ wp frame (wpE (defs₀ (F := F)) 𝒱₀ (VT d L) none) Set.univ (k (loadIdx (F := F) (e := .f32) f ![ix] h)) Q)
        -∗ wp frame (wpE (defs₀ (F := F)) 𝒱₀ (VT d L) none) Set.univ (SparseCore.vectorLoadIdx b2 ![ix] h hl >>= k) Q) := by
  have := SparseCore.wp_vectorLoadIdx (defs := defs₀ (F := F)) (Q := Q) 𝒱₀ (VT d L) none Set.univ (base := b2) (idxs := ![ix]) (h := h) (hl := hl)
    (k := k) (S := Finset.univ) (q := fullShare) (f := f) (Ix := HIx 1) (Lvl := ℕ) (U := UU) (Name := ℕ) (Finset.subset_univ _)
  erw [Memref.read_access_whole _ cc1_scratch2 f] at this
  exact this

/-- A gather from the tile's queries. -/
theorem wp_gather_b3 {α : Type} {Q : α → sProp 𝕄} {ix : IVec S16 32}
    {h : ∀ a x, ((![ix] : Fin 1 → IVec S16 32) a x).toNat < S384.size a} {hl : (b3).view.Loads}
    {k : Vec F S16 .f32 → Prog (TpuEff nD τ sig (Elt F) Λ₀ (VT d L).2) α} {f : Buf (Elt F) ((b3).view.loc (VT d L))} :
    (iprop((b3).view.loc (VT d L) ↦{fullShare} f) : sProp 𝕄)
      ⊢ iprop((((b3).view.loc (VT d L) ↦{fullShare} f)
          -∗ wp frame (wpE (defs₀ (F := F)) 𝒱₀ (VT d L) none) Set.univ (k (loadIdx (F := F) (e := .f32) f ![ix] h)) Q)
        -∗ wp frame (wpE (defs₀ (F := F)) 𝒱₀ (VT d L) none) Set.univ (SparseCore.vectorLoadIdx b3 ![ix] h hl >>= k) Q) := by
  have := SparseCore.wp_vectorLoadIdx (defs := defs₀ (F := F)) (Q := Q) 𝒱₀ (VT d L) none Set.univ (base := b3) (idxs := ![ix]) (h := h) (hl := hl)
    (k := k) (S := Finset.univ) (q := fullShare) (f := f) (Ix := HIx 1) (Lvl := ℕ) (U := UU) (Name := ℕ) (Finset.subset_univ _)
  erw [Memref.read_access_whole _ cc1_scratch3 f] at this
  exact this

/-- The contents of a query's list once it is complete, read at a rank's place or, the rank being beyond the count, at the first. -/
theorem list_lo {p : ℕ → Prop} [DecidablePred p] {D : ℕ} (hD : D ≤ 8192) (hend : D = 8192 ∨ 32 ≤ Nat.count p D) {f : Buf (Elt F) ((b5).view.loc (VT d L))}
    (hf : Listed p D f) (h : ∀ a x, ((![(broadcast S16 0#32 : IVec S16 32)] : Fin 1 → IVec S16 32) a x).toNat < S544.size a) (l : Fin 16) :
    k1_pay19 (F := F) (iota .scVector S16 32 [0] iota_S16_d0_w32_scVector) (cw p D)
      (View.readAt (Elt F) (b5).view (Rect.unit (s := S544) ![0] S16.size inb_S544_S16_0).toLoadRect f) (loadIdx (F := F) (e := .i32) f ![broadcast S16 0#32] h) (ln l)
      = BitVec.ofNat 32 (sel p l.val) := by
  rw [← Listed.sel_eq hD hend hf l.val (by have := l.isLt; omega)
    ((Rect.unit (s := S544) ![0] S16.size inb_S544_S16_0).toLoadRect.idx (ln l)) (idxAt ![(broadcast S16 0#32 : IVec S16 32)] h (ln l)) (by
      show 0 + 1 * l.val = l.val; omega) rfl]
  show (if IntOp.cmpi .slt (BitVec.ofNat 32 (0 * 16 + l.val)) (cw p D) = 1 then f _ else f _) = _
  have : IntOp.cmpi .slt (BitVec.ofNat 32 (0 * 16 + l.val)) (cw p D) = 1 ↔ (BitVec.ofNat 32 l.val).toInt < (cw p D).toInt := by
    rw [Nat.zero_mul, Nat.zero_add]
    show BitVec.ofBool (decide _) = 1 ↔ _
    by_cases h : (BitVec.ofNat 32 l.val).toInt < (cw p D).toInt
    · simp [h]
    · simp [h]
  simp only [this]
  rfl

/-- The upper 16 of the listed points. -/
theorem list_hi {p : ℕ → Prop} [DecidablePred p] {D : ℕ} (hD : D ≤ 8192) (hend : D = 8192 ∨ 32 ≤ Nat.count p D) {f : Buf (Elt F) ((b5).view.loc (VT d L))}
    (hf : Listed p D f) (h : ∀ a x, ((![(broadcast S16 0#32 : IVec S16 32)] : Fin 1 → IVec S16 32) a x).toNat < S544.size a) (l : Fin 16) :
    k1_pay20 (F := F) (iota .scVector S16 32 [0] iota_S16_d0_w32_scVector) (cw p D)
      (View.readAt (Elt F) (b5).view (Rect.unit (s := S544) ![16] S16.size inb_S544_S16_16).toLoadRect f) (loadIdx (F := F) (e := .i32) f ![broadcast S16 0#32] h) (ln l)
      = BitVec.ofNat 32 (sel p (16 + l.val)) := by
  rw [← Listed.sel_eq hD hend hf (16 + l.val) (by have := l.isLt; omega)
    ((Rect.unit (s := S544) ![16] S16.size inb_S544_S16_16).toLoadRect.idx (ln l)) (idxAt ![(broadcast S16 0#32 : IVec S16 32)] h (ln l)) (by
      show 16 + 1 * l.val = 16 + l.val; omega) rfl]
  show (if IntOp.cmpi .slt (BitVec.ofNat 32 (0 * 16 + l.val) + 16#32) (cw p D) = 1 then f _ else f _) = _
  have : IntOp.cmpi .slt (BitVec.ofNat 32 (0 * 16 + l.val) + 16#32) (cw p D) = 1 ↔ (BitVec.ofNat 32 (16 + l.val)).toInt < (cw p D).toInt := by
    rw [Nat.zero_mul, Nat.zero_add, show BitVec.ofNat 32 l.val + 16#32 = BitVec.ofNat 32 (16 + l.val) by rw [Nat.add_comm, BitVec.ofNat_add]]
    show BitVec.ofBool (decide _) = 1 ↔ _
    by_cases h : (BitVec.ofNat 32 (16 + l.val)).toInt < (cw p D).toInt
    · simp [h]
    · simp [h]
  simp only [this]
  rfl

/-- A selected point lies within the coordinate rows. -/
theorem sel_inb {p : ℕ → Prop} [DecidablePred p] {v : Vec F S16 .i32} {b : ℕ} (hv : ∀ l : Fin 16, v (ln l) = BitVec.ofNat 32 (sel p (b + l.val))) :
    ∀ a x, ((![v] : Fin 1 → IVec S16 32) a x).toNat < S8192.size a := by
  intro a x
  obtain ⟨l, rfl⟩ := exists_ln x
  match a with
  | 0 =>
    show (v (ln l)).toNat < 8192
    rw [hv l]
    have := sel_lt (p := p) (b + l.val)
    simp only [BitVec.toNat_ofNat]; omega

/-- The word of a trip's query coordinate. -/
theorem qix (t1 : Fin k1_t1_loop.trips) (c : ℕ) (hc : c < 3) :
    (Scalar.addi (Scalar.muli (Scf.iv 0#32 1#32 t1) 3#32) (BitVec.ofNat 32 c)).toNat = 3 * t1.val + c := by
  have ht := t1.isLt
  simp only [trips1] at ht
  show (((0#32 + BitVec.ofNat 32 t1.val * 1#32) * 3#32) + BitVec.ofNat 32 c).toNat = _
  simp only [BitVec.toNat_add, BitVec.toNat_mul, BitVec.toNat_ofNat]
  omega

/-- A query's coordinate is one of the tile's. -/
theorem q_inb (t1 : Fin k1_t1_loop.trips) (c : ℕ) (hc : c < 3) :
    ∀ a x, ((![(broadcast S16 (Scalar.addi (Scalar.muli (Scf.iv 0#32 1#32 t1) 3#32) (BitVec.ofNat 32 c)) : IVec S16 32)] : Fin 1 → IVec S16 32) a x).toNat < S384.size a := by
  intro a x
  have ht := t1.isLt
  simp only [trips1] at ht
  match a with
  | 0 => show (Scalar.addi (Scalar.muli (Scf.iv 0#32 1#32 t1) 3#32) (BitVec.ofNat 32 c)).toNat < 384; rw [qix t1 c hc]; omega

/-- One store of sixteen results: the half row it covers, and the rest from the stores before it. -/
theorem peel {off : Fin 3 → ℕ} {c t h : ℕ} (heq : off = ![c, t, 16 * h]) (inb : ∀ a, off a + S1x1x16.size a ≤ S3x128x32.size a)
    (w : FVec F S16 .f32) (Ls : List (View.Piece (Elt F) S3x128x32 .f32)) (f : Buf (Elt F) ((b6).view.loc (VT d L))) (y : S3x128x32.Idx) (tgt : F .f32)
    (hin : (y 0).val = c → (y 1).val = t → (y 2).val / 16 = h → w (ln ⟨(y 2).val % 16, Nat.mod_lt _ (by decide)⟩) = tgt)
    (hout : ¬ ((y 0).val = c ∧ (y 1).val = t ∧ (y 2).val / 16 = h) → (b6).view.read (Elt F) ((b6).view.writes (Elt F) f Ls) y = tgt) :
    (b6).view.read (Elt F) ((b6).view.writes (Elt F) f (⟨Rect.unit (s := S3x128x32) off S1x1x16.size inb, shapeCast S1x1x16 w shapeCasts_S16_S1x1x16⟩ :: Ls)) y = tgt := by
  by_cases hy : (y 0).val = c ∧ (y 1).val = t ∧ (y 2).val / 16 = h
  · obtain ⟨h0, h1, h2⟩ := hy
    let x : S1x1x16.Idx := fun | 0 => ⟨0, by decide⟩ | 1 => ⟨0, by decide⟩ | 2 => ⟨(y 2).val % 16, Nat.mod_lt _ (by decide)⟩
    rw [View.read_writes_cons_unit_of_mem (Val := Elt F) (b6).view f inb _ Ls y x heq (fun a => by
      match a with
      | 0 => exact h0
      | 1 => exact h1
      | 2 => show (y 2).val = 16 * h + (y 2).val % 16; omega)]
    rw [shapeCast_apply _ _ x (ln ⟨(y 2).val % 16, Nat.mod_lt _ (by decide)⟩) (by
      rw [Shape.rowMajor_val_one, Shape.rowMajor_val_three]; show (y 2).val % 16 = (0 * 1 + 0) * 16 + (y 2).val % 16; omega)]
    exact hin h0 h1 h2
  · by_cases h0 : (y 0).val = c
    · by_cases h1 : (y 1).val = t
      · rw [View.read_writes_cons_unit_of_not_mem (Val := Elt F) (b6).view f inb _ Ls y heq 2 (by
          show (y 2).val < 16 * h ∨ 16 * h + 16 ≤ (y 2).val
          have : ¬ (y 2).val / 16 = h := fun e => hy ⟨h0, h1, e⟩
          omega)]
        exact hout hy
      · rw [View.read_writes_cons_unit_of_not_mem (Val := Elt F) (b6).view f inb _ Ls y heq 1 (by
          show (y 1).val < t ∨ t + 1 ≤ (y 1).val
          omega)]
        exact hout hy
    · rw [View.read_writes_cons_unit_of_not_mem (Val := Elt F) (b6).view f inb _ Ls y heq 0 (by
        show (y 0).val < c ∨ c + 1 ≤ (y 0).val
        omega)]
      exact hout hy

/-- The result a tile's query `j` has in coordinate `c` and rank `r`. -/
abbrev res (mw : S4096x16x128.Idx → BitVec 32) (fx : Fin 3 → S8192.Idx → F .f32) (fq : S384.Idx → F .f32) (c : Fin 3) (j r : ℕ) : F .f32 :=
  rel (fx c (i8192 (sel (mbit mw (qn L j)) r))) (fq (i384 (3 * j + c.val)))

/-- The loop over the tile's queries: the results of the queries passed are in place. -/
def inv1 (O : CellTallies nD τ sig (HIx 1)) (qm : PosShare TreeShare) (mw : Buf (Elt F) ((mV).view.loc (VT d L)))
    (fx : Fin 3 → S8192.Idx → F .f32) (fq : S384.Idx → F .f32) (t1 : ℕ) (_ : Unit) : sProp 𝕄 :=
  iprop(Transfers.MayWaits (VT d L) (default : HIx 1) O
    ∗ ((mV).view.loc (VT d L) ↦{qm} mw)
    ∗ ((b0).view.loc (VT d L) ↦{fullShare} (fx 0 : Buf (Elt F) ((b0).view.loc (VT d L))))
    ∗ ((b1).view.loc (VT d L) ↦{fullShare} (fx 1 : Buf (Elt F) ((b1).view.loc (VT d L))))
    ∗ ((b2).view.loc (VT d L) ↦{fullShare} (fx 2 : Buf (Elt F) ((b2).view.loc (VT d L))))
    ∗ ((b3).view.loc (VT d L) ↦{fullShare} (fq : Buf (Elt F) ((b3).view.loc (VT d L))))
    ∗ (∃ g : Buf (Elt F) ((b4).view.loc (VT d L)), (b4).view.loc (VT d L) ↦{fullShare} g)
    ∗ (∃ g : Buf (Elt F) ((b5).view.loc (VT d L)), (b5).view.loc (VT d L) ↦{fullShare} g)
    ∗ (∃ g : Buf (Elt F) ((b7).view.loc (VT d L)), (b7).view.loc (VT d L) ↦{fullShare} g)
    ∗ (∃ f6 : Buf (Elt F) ((b6).view.loc (VT d L)), ⌜∀ y : S3x128x32.Idx, (y 1).val < t1 → f6 y = res L mw fx fq (y 0) (y 1).val (y 2).val⌝
        ∗ ((b6).view.loc (VT d L) ↦{fullShare} f6))
    ∗ semVal (VT d L, SemLoc.dma cc1_scoped4.sem) 0
    ∗ ∃ W, owes (VT d L) O W)

/-- What a store's lane holds. -/
theorem pay_val (mw : S4096x16x128.Idx → BitVec 32) (fx : Fin 3 → S8192.Idx → F .f32) (fq : S384.Idx → F .f32) (c : Fin 3) (b : ℕ)
    (y : S3x128x32.Idx) (t1 : Fin k1_t1_loop.trips) (e0 : (y 0).val = c.val) (e1 : (y 1).val = t1.val) (e2 : (y 2).val = b + (y 2).val % 16)
    {v : Vec F S16 .i32} (hv : ∀ l : Fin 16, v (ln l) = BitVec.ofNat 32 (sel (mbit mw (qn L t1.val)) (b + l.val)))
    (h : ∀ a x, ((![v] : Fin 1 → IVec S16 32) a x).toNat < S8192.size a)
    (h' : ∀ a x, ((![(broadcast S16 (Scalar.addi (Scalar.muli (Scf.iv 0#32 1#32 t1) 3#32) (BitVec.ofNat 32 c.val)) : IVec S16 32)] : Fin 1 → IVec S16 32) a x).toNat < S384.size a) :
    rel (loadIdx (F := F) (e := .f32) (fx c) ![v] h (ln ⟨(y 2).val % 16, Nat.mod_lt _ (by decide)⟩))
      (loadIdx (F := F) (e := .f32) fq ![broadcast S16 (Scalar.addi (Scalar.muli (Scf.iv 0#32 1#32 t1) 3#32) (BitVec.ofNat 32 c.val))] h' (ln ⟨(y 2).val % 16, Nat.mod_lt _ (by decide)⟩))
      = res L mw fx fq (y 0) (y 1).val (y 2).val := by
  have ht := t1.isLt
  simp only [trips1] at ht
  obtain rfl : y 0 = c := Fin.ext e0
  have hs := sel_lt (p := mbit mw (qn L t1.val)) (y 2).val
  have hc : (y 0).val < 3 := (y 0).isLt
  unfold res loadIdx
  congr 2
  · funext a
    rw [Fin.eq_zero a]
    refine Fin.ext ?_
    show (v _).toNat = sel (mbit mw (qn L (y 1).val)) (y 2).val % 8192
    rw [hv, e1, ← e2, BitVec.toNat_ofNat]; omega
  · funext a
    rw [Fin.eq_zero a]
    refine Fin.ext ?_
    show (Scalar.addi (Scalar.muli (Scf.iv 0#32 1#32 t1) 3#32) (BitVec.ofNat 32 (y 0).val)).toNat = (3 * (y 1).val + (y 0).val) % 384
    rw [qix t1 _ hc, e1]; omega

set_option maxHeartbeats 4000000 in
/-- One trip of the first loop, one query, keeps its invariant. -/
theorem t1_step (O : CellTallies nD τ sig (HIx 1)) (qm : PosShare TreeShare) (mw : Buf (Elt F) ((mV).view.loc (VT d L)))
    (fx : Fin 3 → S8192.Idx → F .f32) (fq : S384.Idx → F .f32)
    (v1 v18 v29 : BitVec 32) (k1_hw5 : k1_chk5 (broadcast S16 0#32)) (t1 : Fin k1_t1_loop.trips) :
    inv1 (F := F) d L O qm mw fx fq t1.val ()
      ⊢ wp frame (wpE (defs₀ (F := F)) 𝒱₀ (VT d L) none) Set.univ
          (k1_t1_body (F := F) L xV (Memref.isWhole_whole _) qV (Memref.isWhole_whole _) mV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) b7 (Memref.isWhole_whole _)
            cc1_scoped0 cc1_scoped1 cc1_scoped2 cc1_scoped3 cc1_scoped4 cc1_scoped5 cc1_scoped6 cc1_scoped7
            v1 v18 v29 (iota .scVector S16 32 [0] iota_S16_d0_w32_scVector) k1_pay26 (broadcast S16 0#32) k1_hw5 0#32 t1 ())
          fun r => inv1 (F := F) d L O qm mw fx fq (t1.val + 1) r := by
  unfold k1_t1_body
  rw [k1_part2_eq_skeleton, k1_part3_eq_skeleton]
  unfold k1_part2_skel k1_part3_skel
  conv_lhs => unfold inv1
  iintro ⟨#Hmw, Hm, H0, H1, H2, H3, ⟨%g, Hg⟩, ⟨%f, Hf⟩, ⟨%s, Hs⟩, ⟨%f6, %h6, H6⟩, Hsem, %W, HO⟩
  sl_exec
  rw [Prog.bind_assoc]
  sl_for (inv2 (F := F) d L O qm mw (qn L t1.val)) $$ [Hm Hg Hf Hs Hsem HO]
  case region =>
    intro t2 u
    exact t2_step d L O qm mw v1 k1_hw5 t1 t2
  · unfold inv2
    isplitr; · iexact Hmw
    isplitl [Hm]; · iexact Hm
    isplitl [Hg]; · iexists _; iexact Hg
    isplitl [Hf Hs]
    · iexists 0; iexists _; iexists _
      isplitr
      rotate_left
      · isplitl [Hf]; · iexact Hf
        iexact Hs
      · ipureintro
        refine ⟨by omega, Listed.zero fun j hj => ?_, fun x => ?_, .inl rfl⟩
        · have hj0 : (j 0).val < 32 := hj
          by_cases hlt : (j 0).val < 16
          · refine (View.read_writes_cons_unit_of_not_mem (Val := Elt F) (b5).view f inb_S544_S16_16 _ _ j rfl 0 (.inl hlt)).trans ?_
            exact View.read_writes_cons_unit_of_mem (Val := Elt F) (b5).view f inb_S544_S16_0 _ [] j (ln ⟨(j 0).val, hlt⟩) rfl (fun a => by
              match a with | 0 => exact (Nat.zero_add _).symm)
          · exact View.read_writes_cons_unit_of_mem (Val := Elt F) (b5).view f inb_S544_S16_16 _ _ j (ln ⟨(j 0).val - 16, by omega⟩) rfl (fun a => by
              match a with | 0 => show (j 0).val = 16 + ((j 0).val - 16); omega)
        · exact View.read_writes_cons_unit_of_mem (Val := Elt F) (b7).view s inb_S1_S1_0 _ [] x x rfl (fun a => by
            match a with | 0 => exact (Nat.zero_add _).symm)
    isplitl [Hsem]; · iexact Hsem
    iexists _; iexact HO
  iintro %_ HI
  unfold inv2
  icases HI with ⟨-, Hm, ⟨%g', Hg⟩, ⟨%D, %f', %s', %hD, Hf, Hs⟩, Hsem, %W', HO⟩
  obtain ⟨hD1, hL, hs, hend⟩ := hD
  sl_exec
  have hr : t1_step.sl.r_1 d L s' = cw (mbit mw (qn L t1.val)) D := hs _
  rw [hr]
  have hend' : D = 8192 ∨ 32 ≤ Nat.count (mbit mw (qn L t1.val)) D := hend
  have hlo := list_lo d L hD1 hend' hL (k1_idx5_inb _ k1_hw5)
  have hhi := list_hi d L hD1 hend' hL (k1_idx5_inb _ k1_hw5)
  have hlo0 : ∀ l : Fin 16, _ = BitVec.ofNat 32 (sel (mbit mw (qn L t1.val)) (0 + l.val)) := fun l => (hlo l).trans (by rw [Nat.zero_add])
  have hc7 := sel_inb (F := F) (b := 0) hlo0
  have hc8 := sel_inb (F := F) (b := 16) hhi
  rw [Prog.bind_assoc]
  iapply (wp_gather_b5 d L) $$ Hf; iintro Hf
  sl_exec
  rw [wp_assume_of _ _ _ _ ?h7]
  case h7 => exact ⟨hc7, hc7, hc7⟩
  sl_exec
  rw [wp_assume_of _ _ _ _ ?h8]
  case h8 => exact ⟨hc8, hc8, hc8⟩
  sl_exec
  rw [wp_assume_of _ _ _ _ ?h6]
  case h6 => exact q_inb t1 0 (by decide)
  rw [Prog.bind_assoc]
  iapply (wp_gather_b3 d L) $$ H3; iintro H3
  rw [Prog.bind_assoc]
  iapply (wp_gather_b0 d L) $$ H0; iintro H0
  rw [Prog.bind_assoc]
  iapply (wp_gather_b0 d L) $$ H0; iintro H0
  sl_exec
  rw [wp_assume_of _ _ _ _ ?h9]
  case h9 => exact q_inb t1 1 (by decide)
  rw [Prog.bind_assoc]
  iapply (wp_gather_b3 d L) $$ H3; iintro H3
  rw [Prog.bind_assoc]
  iapply (wp_gather_b1 d L) $$ H1; iintro H1
  rw [Prog.bind_assoc]
  iapply (wp_gather_b1 d L) $$ H1; iintro H1
  sl_exec
  rw [wp_assume_of _ _ _ _ ?h10]
  case h10 => exact q_inb t1 2 (by decide)
  rw [Prog.bind_assoc]
  iapply (wp_gather_b3 d L) $$ H3; iintro H3
  rw [Prog.bind_assoc]
  iapply (wp_gather_b2 d L) $$ H2; iintro H2
  rw [Prog.bind_assoc]
  iapply (wp_gather_b2 d L) $$ H2; iintro H2
  sl_exec
  rw [wp_ret]; imodintro
  unfold inv1
  isplitr; · iexact Hmw
  isplitl [Hm]; · iexact Hm
  isplitl [H0]; · iexact H0
  isplitl [H1]; · iexact H1
  isplitl [H2]; · iexact H2
  isplitl [H3]; · iexact H3
  isplitl [Hg]; · iexists _; iexact Hg
  isplitl [Hf]; · iexists _; iexact Hf
  isplitl [Hs]; · iexists _; iexact Hs
  isplitl [H6]
  · iexists _
    isplitr
    rotate_left
    · iexact H6
    · ipureintro
      intro y hy
      refine peel (F := F) d L (c := 2) (t := t1.val) (h := 1) (k1_off10_eq t1) _ _ _ _ y _ (fun e0 e1 e2 => ?_) (fun n10 => ?_)
      · exact pay_val (F := F) L mw fx fq 2 (16 * 1) y t1 e0 e1 (by omega) hhi _ _
      refine peel (F := F) d L (c := 2) (t := t1.val) (h := 0) (k1_off9_eq t1) _ _ _ _ y _ (fun e0 e1 e2 => ?_) (fun n9 => ?_)
      · exact pay_val (F := F) L mw fx fq 2 (16 * 0) y t1 e0 e1 (by omega) hlo0 _ _
      refine peel (F := F) d L (c := 1) (t := t1.val) (h := 1) (k1_off8_eq t1) _ _ _ _ y _ (fun e0 e1 e2 => ?_) (fun n8 => ?_)
      · exact pay_val (F := F) L mw fx fq 1 (16 * 1) y t1 e0 e1 (by omega) hhi _ _
      refine peel (F := F) d L (c := 1) (t := t1.val) (h := 0) (k1_off7_eq t1) _ _ _ _ y _ (fun e0 e1 e2 => ?_) (fun n7 => ?_)
      · exact pay_val (F := F) L mw fx fq 1 (16 * 0) y t1 e0 e1 (by omega) hlo0 _ _
      refine peel (F := F) d L (c := 0) (t := t1.val) (h := 1) (k1_off6_eq t1) _ _ _ _ y _ (fun e0 e1 e2 => ?_) (fun n6 => ?_)
      · exact pay_val (F := F) L mw fx fq 0 (16 * 1) y t1 e0 e1 (by omega) hhi _ _
      refine peel (F := F) d L (c := 0) (t := t1.val) (h := 0) (k1_off5_eq t1) _ _ _ _ y _ (fun e0 e1 e2 => ?_) (fun n5 => ?_)
      · exact pay_val (F := F) L mw fx fq 0 (16 * 0) y t1 e0 e1 (by omega) hlo0 _ _
      exact h6 y (by
        have h0 : (y 0).val < 3 := (y 0).isLt
        have h2 : (y 2).val < 32 := (y 2).isLt
        omega)
  isplitl [Hsem]; · iexact Hsem
  iexists _; iexact HO
end Tile
end Cert.Proof.Grp
-- ==== Proof.Own.Tile.lean ====
/-
  A tile's task: its coordinates fetched, its queries, its results written out.
-/
module

public import proofs.«01_k».proof.Proof.Own.Query

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S12x8192 EltTy.f32)
local notation "qV" => (Memref.whole Cert.KernelIdeal.main_v6_scv : Memref Cert.KernelIdeal.sig Kind.scVector Space.hbm Cert.KernelIdeal.S12288 EltTy.f32)
local notation "mV" => (Memref.whole Cert.KernelIdeal.main_v3_scv : Memref Cert.KernelIdeal.sig Kind.scVector Space.hbm Cert.KernelIdeal.S4096x16x128 EltTy.i32)
local notation "oV" => (Memref.whole Cert.KernelIdeal.main_v7_scv : Memref Cert.KernelIdeal.sig Kind.scVector Space.hbm Cert.KernelIdeal.S12288x32 EltTy.f32)
local notation "b0" => (Memref.whole Cert.KernelIdeal.cc1_scratch0 : Memref Cert.KernelIdeal.sig Kind.scVector Space.vmem Cert.KernelIdeal.S8192 EltTy.f32)
local notation "b1" => (Memref.whole Cert.KernelIdeal.cc1_scratch1 : Memref Cert.KernelIdeal.sig Kind.scVector Space.vmem Cert.KernelIdeal.S8192 EltTy.f32)
local notation "b2" => (Memref.whole Cert.KernelIdeal.cc1_scratch2 : Memref Cert.KernelIdeal.sig Kind.scVector Space.vmem Cert.KernelIdeal.S8192 EltTy.f32)
local notation "b3" => (Memref.whole Cert.KernelIdeal.cc1_scratch3 : Memref Cert.KernelIdeal.sig Kind.scVector Space.vmem Cert.KernelIdeal.S384 EltTy.f32)
local notation "b4" => (Memref.whole Cert.KernelIdeal.cc1_scratch4 : Memref Cert.KernelIdeal.sig Kind.scVector Space.vmem Cert.KernelIdeal.S128 EltTy.i32)
local notation "b5" => (Memref.whole Cert.KernelIdeal.cc1_scratch5 : Memref Cert.KernelIdeal.sig Kind.scVector Space.vmem Cert.KernelIdeal.S544 EltTy.i32)
local notation "b6" => (Memref.whole Cert.KernelIdeal.cc1_scratch6 : Memref Cert.KernelIdeal.sig Kind.scVector Space.vmem Cert.KernelIdeal.S3x128x32 EltTy.f32)
local notation "b7" => (Memref.whole Cert.KernelIdeal.cc1_scratch7 : Memref Cert.KernelIdeal.sig Kind.scVector Space.smem Cert.KernelIdeal.S1 EltTy.i32)

section Tile

variable (d : Dev nD) (L : grid1.Coords)

/-- An index of the coordinate rows, of the flat query coordinates. -/
abbrev iX (r n : ℕ) : S12x8192.Idx := fun
  | 0 => ⟨r % 12, Nat.mod_lt _ (by decide)⟩
  | 1 => ⟨n % 8192, Nat.mod_lt _ (by decide)⟩
abbrev iQ (k : ℕ) : S12288.Idx := fun a => ⟨k % 12288, by rw [Fin.eq_zero a]; exact Nat.mod_lt _ (by decide)⟩

/-- The batch of a tile's queries, and the first of them within it. -/
abbrev bT (L : grid1.Coords) : ℕ := (2 * (L 1).val + (L 0).val) / 8
abbrev kT (L : grid1.Coords) : ℕ := (2 * (L 1).val + (L 0).val) % 8 * 128

/-- Where a coordinate row starts. -/
theorem off1_eq : ∀ (i : grid1.Coords) (r : Fin 3), k1_off1 i (BitVec.ofNat 32 r.val) = ![3 * bT i + r.val, 0] := by decide +kernel
/-- Where a tile's rows of the result start. -/
theorem off11_eq : ∀ (i : grid1.Coords) (r : Fin 3), k1_off11 i (BitVec.ofNat 32 (1024 * r.val)) = ![3072 * bT i + 1024 * r.val + kT i, 0] := by decide +kernel

/-- A tile's batch is one of the four. -/
theorem bT_lt : bT L < 4 := by
  have h0 : (L 0).val < 2 := (L 0).isLt
  have h1 : (L 1).val < 16 := (L 1).isLt
  unfold bT; omega

/-- The kernel's result: row `3072 b + 1024 c + k` holds query `k` of batch `b` in coordinate `c`, a rank in each column. -/
def outv (xf : S12x8192.Idx → F .f32) (qf : S12288.Idx → F .f32) (mw : S4096x16x128.Idx → BitVec 32) : S12288x32.Idx → F .f32 := fun y =>
  rel (xf (iX (3 * ((y 0).val / 3072) + (y 0).val / 1024 % 3) (sel (mbit mw (1024 * ((y 0).val / 3072) + (y 0).val % 1024)) (y 1).val)))
    (qf (iQ (3 * (1024 * ((y 0).val / 3072) + (y 0).val % 1024) + (y 0).val / 1024 % 3)))

/-- The coordinate row a tile fetches. -/
theorem xrow_read (r : Fin 3) (xf : Buf (Elt F) ((xV).view.loc (VT d L))) (x : S8192.Idx) :
    (((xV).slice (Rect.unit (s := S12x8192) (k1_off1 L (BitVec.ofNat 32 r.val)) S1x8192.size (k1_off1_inb L r)) (fun _ => rfl)).squeeze S8192 squeezes_S1x8192_S8192).view.read (Elt F) xf x
      = xf (iX (3 * bT L + r.val) (x 0).val) := by
  have hb := bT_lt L
  have hr := r.isLt
  have hx : (x 0).val < 8192 := (x 0).isLt
  let k : S1x8192.Idx := fun | 0 => ⟨0, by decide⟩ | 1 => ⟨(x 0).val, hx⟩
  rw [Memref.read_squeeze_slice (xV) _ _ _ (show S1x8192.ShapeCasts S8192 by decide), shapeCast_apply _ _ x k (by
    rw [Shape.rowMajor_val_one, Shape.rowMajor_val_two]; show 0 * 8192 + (x 0).val = _; omega)]
  rw [View.readAt_apply]
  refine congrArg xf (funext fun a => Fin.ext ?_)
  have e := congrFun (off1_eq L r) a
  show k1_off1 L (BitVec.ofNat 32 r.val) a + 1 * (k a).val = _
  rw [e]
  match a with
  | 0 => show 3 * bT L + r.val + 1 * 0 = (3 * bT L + r.val) % 12; omega
  | 1 => show 0 + 1 * (x 0).val = (x 0).val % 8192; omega

/-- The query coordinates a tile fetches. -/
theorem q_read (qf : Buf (Elt F) ((qV).view.loc (VT d L))) (x : S384.Idx) :
    ((qV).slice (Rect.unit (s := S12288) (k1_off2 L) S384.size (k1_off2_inb L)) (fun _ => rfl)).view.read (Elt F) qf x
      = qf (iQ (384 * (2 * (L 1).val + (L 0).val) + (x 0).val)) := by
  have h0 : (L 0).val < 2 := (L 0).isLt
  have h1 : (L 1).val < 16 := (L 1).isLt
  have hx : (x 0).val < 384 := (x 0).isLt
  refine congrArg qf (funext fun a => Fin.ext ?_)
  have e := congrFun (k1_off2_eq L) a
  show k1_off2 L a + 1 * (x a).val = _
  rw [e, Fin.eq_zero a]
  show 768 * (L 1).val + 384 * (L 0).val + 1 * (x 0).val = (384 * (2 * (L 1).val + (L 0).val) + (x 0).val) % 12288
  omega

/-- The result rows a tile writes in one coordinate, as the body addresses them. -/
abbrev oS (L : grid1.Coords) (r : Fin 3) : Memref sig .scVector .hbm S128x32 .f32 :=
  (oV).slice (Rect.unit (s := S12288x32) (k1_off11 L (BitVec.ofNat 32 (1024 * r.val))) S128x32.size (k1_off11_inb L r)) (fun _ => rfl)

/-- One coordinate of the tile's results, as it is written out. -/
theorem slab_read (r : Fin 3) (inb : ∀ a, (![r.val, 0, 0] : Fin 3 → ℕ) a + S1x128x32.size a ≤ S3x128x32.size a) (f6 : Buf (Elt F) ((b6).view.loc (VT d L))) (x : S128x32.Idx) :
    (((b6).slice (Rect.unit (s := S3x128x32) ![r.val, 0, 0] S1x128x32.size inb) (fun _ => rfl)).squeeze S128x32 squeezes_S1x128x32_S128x32).view.read (Elt F) f6 x
      = f6 (fun | 0 => r | 1 => x 0 | 2 => x 1) := by
  let k : S1x128x32.Idx := fun | 0 => ⟨0, by decide⟩ | 1 => x 0 | 2 => x 1
  rw [Memref.read_squeeze_slice (b6) _ _ _ (show S1x128x32.ShapeCasts S128x32 by decide), shapeCast_apply _ _ x k (by
    rw [Shape.rowMajor_val_three, Shape.rowMajor_val_two]; show (0 * 128 + (x 0).val) * 32 + (x 1).val = (x 0).val * 32 + (x 1).val; omega)]
  rw [View.readAt_apply]
  refine congrArg f6 (funext fun a => Fin.ext ?_)
  match a with
  | 0 => show r.val + 1 * 0 = r.val; omega
  | 1 => show 0 + 1 * (x 0).val = (x 0).val; omega
  | 2 => show 0 + 1 * (x 1).val = (x 1).val; omega

/-- The rows written hold the kernel's result. -/
theorem out_eq (r : Fin 3) (xf : S12x8192.Idx → F .f32) (qf : S12288.Idx → F .f32) (mw : S4096x16x128.Idx → BitVec 32)
    (f : Buf (Elt F) ((oS L r).view.loc (VT d L))) (w : S128x32.Idx → F .f32)
    (hw : ∀ x, w x = res L mw (fun c y => xf (iX (3 * bT L + c.val) (y 0).val)) (fun y => qf (iQ (384 * (2 * (L 1).val + (L 0).val) + (y 0).val))) r (x 0).val (x 1).val) :
    ((oS L r).view.loc (VT d L) ↦[(oS L r).view.set]{fullShare} ((oS L r).view.writes (Elt F) f [⟨Rect.whole S128x32, w⟩]) : sProp 𝕄)
      = ((oS L r).view.loc (VT d L) ↦[(oS L r).view.set]{fullShare} (outv xf qf mw : Buf (Elt F) ((oS L r).view.loc (VT d L)))) := by
  rw [show (oS L r).view.writes (Elt F) f [⟨Rect.whole S128x32, w⟩] = (oS L r).view.write (Elt F) f w Finset.univ from (View.write_univ_eq_writes_whole (Val := Elt F) (oS L r).view f [] w).symm]
  refine pointsTo_congr fun i hi => ?_
  obtain ⟨x, -, rfl⟩ := Finset.mem_map.mp hi
  rw [View.write_emb_of_mem _ _ (Finset.mem_univ _), hw]
  have h0 : (L 0).val < 2 := (L 0).isLt
  have h1 : (L 1).val < 16 := (L 1).isLt
  have hx0 : (x 0).val < 128 := (x 0).isLt
  have hx1 : (x 1).val < 32 := (x 1).isLt
  have hr := r.isLt
  have hb := bT_lt L
  have e := off11_eq L r
  have e0 : (((oS L r).view.emb x) 0).val = 3072 * bT L + 1024 * r.val + kT L + (x 0).val := by
    show k1_off11 L (BitVec.ofNat 32 (1024 * r.val)) 0 + 1 * (x 0).val = _
    rw [congrFun e 0]; show 3072 * bT L + 1024 * r.val + kT L + 1 * (x 0).val = _; omega
  have e1 : (((oS L r).view.emb x) 1).val = (x 1).val := by
    show k1_off11 L (BitVec.ofNat 32 (1024 * r.val)) 1 + 1 * (x 1).val = _
    rw [congrFun e 1]; show 0 + 1 * (x 1).val = _; omega
  have hk : kT L < 1024 - 127 := by unfold kT; omega
  have hkm : 1024 * bT L + kT L = 128 * (2 * (L 1).val + (L 0).val) := by unfold bT kT; omega
  unfold outv res
  rw [e0, e1]
  rw [show (3072 * bT L + 1024 * r.val + kT L + (x 0).val) / 3072 = bT L by omega, show (3072 * bT L + 1024 * r.val + kT L + (x 0).val) / 1024 % 3 = r.val by omega,
    show (3072 * bT L + 1024 * r.val + kT L + (x 0).val) % 1024 = kT L + (x 0).val by omega]
  rw [show 1024 * bT L + (kT L + (x 0).val) = qn L (x 0).val by unfold qn; omega]
  have hs := sel_lt (p := mbit mw (qn L (x 0).val)) (x 1).val
  show rel (xf (iX (3 * bT L + r.val) (sel (mbit mw (qn L (x 0).val)) (x 1).val % 8192)))
    (qf (iQ (384 * (2 * (L 1).val + (L 0).val) + (3 * (x 0).val + r.val) % 384))) = _
  rw [Nat.mod_eq_of_lt hs, Nat.mod_eq_of_lt (show 3 * (x 0).val + r.val < 384 by omega),
    show 384 * (2 * (L 1).val + (L 0).val) + (3 * (x 0).val + r.val) = 3 * qn L (x 0).val + r.val by unfold qn; omega]

/-- A transfer's cell of the tile. -/
abbrev cell (s : DmaSem sig) : GSem nD τ sig := (VT d L, .dma s)

/-- A semaphore cell is one of the tile's own. -/
theorem cell_mem {s : DmaSem sig} (h : (SemLoc.dma s : SemLoc sig).isScoped .scVector = true) : cell d L s ∈ ownCells (VT d L) :=
  mem_ownCells.mpr ⟨rfl, h⟩
/-- Two different semaphores have different cells. -/
theorem cell_ne {s s' : DmaSem sig} (h : (SemLoc.dma s : SemLoc sig) ≠ SemLoc.dma s') : cell d L s ≠ cell d L s' :=
  fun e => h (congrArg Prod.snd e)
/-- The tile's semaphores are its transfers' eight, and the rest. -/
theorem ownSems0_V : (ownSems0 (VT d L) : sProp 𝕄)
    = iprop(semVal (cell d L cc1_scoped0.sem) 0 ∗ semVal (cell d L cc1_scoped1.sem) 0 ∗ semVal (cell d L cc1_scoped2.sem) 0 ∗ semVal (cell d L cc1_scoped3.sem) 0 ∗ semVal (cell d L cc1_scoped4.sem) 0 ∗ semVal (cell d L cc1_scoped5.sem) 0 ∗ semVal (cell d L cc1_scoped6.sem) 0 ∗ semVal (cell d L cc1_scoped7.sem) 0
        ∗ bigSep (((((((((ownCells (VT d L)).erase (cell d L cc1_scoped0.sem)).erase (cell d L cc1_scoped1.sem)).erase (cell d L cc1_scoped2.sem)).erase (cell d L cc1_scoped3.sem)).erase (cell d L cc1_scoped4.sem)).erase (cell d L cc1_scoped5.sem)).erase (cell d L cc1_scoped6.sem)).erase (cell d L cc1_scoped7.sem)) fun g => semVal g 0) := by
  unfold SparseCore.Cfg.ownSems0
  rw [SparseCore.bigSep_erase' (i := cell d L cc1_scoped0.sem) (cell_mem d L (by decide)),
    SparseCore.bigSep_erase' (i := cell d L cc1_scoped1.sem) (Finset.mem_erase.mpr ⟨cell_ne d L (show (SemLoc.dma cc1_scoped1.sem : SemLoc sig) ≠ SemLoc.dma cc1_scoped0.sem by decide), cell_mem d L (by decide)⟩),
    SparseCore.bigSep_erase' (i := cell d L cc1_scoped2.sem) (Finset.mem_erase.mpr ⟨cell_ne d L (show (SemLoc.dma cc1_scoped2.sem : SemLoc sig) ≠ SemLoc.dma cc1_scoped1.sem by decide), Finset.mem_erase.mpr ⟨cell_ne d L (show (SemLoc.dma cc1_scoped2.sem : SemLoc sig) ≠ SemLoc.dma cc1_scoped0.sem by decide), cell_mem d L (by decide)⟩⟩),
    SparseCore.bigSep_erase' (i := cell d L cc1_scoped3.sem) (Finset.mem_erase.mpr ⟨cell_ne d L (show (SemLoc.dma cc1_scoped3.sem : SemLoc sig) ≠ SemLoc.dma cc1_scoped2.sem by decide), Finset.mem_erase.mpr ⟨cell_ne d L (show (SemLoc.dma cc1_scoped3.sem : SemLoc sig) ≠ SemLoc.dma cc1_scoped1.sem by decide), Finset.mem_erase.mpr ⟨cell_ne d L (show (SemLoc.dma cc1_scoped3.sem : SemLoc sig) ≠ SemLoc.dma cc1_scoped0.sem by decide), cell_mem d L (by decide)⟩⟩⟩),
    SparseCore.bigSep_erase' (i := cell d L cc1_scoped4.sem) (Finset.mem_erase.mpr ⟨cell_ne d L (show (SemLoc.dma cc1_scoped4.sem : SemLoc sig) ≠ SemLoc.dma cc1_scoped3.sem by decide), Finset.mem_erase.mpr ⟨cell_ne d L (show (SemLoc.dma cc1_scoped4.sem : SemLoc sig) ≠ SemLoc.dma cc1_scoped2.sem by decide), Finset.mem_erase.mpr ⟨cell_ne d L (show (SemLoc.dma cc1_scoped4.sem : SemLoc sig) ≠ SemLoc.dma cc1_scoped1.sem by decide), Finset.mem_erase.mpr ⟨cell_ne d L (show (SemLoc.dma cc1_scoped4.sem : SemLoc sig) ≠ SemLoc.dma cc1_scoped0.sem by decide), cell_mem d L (by decide)⟩⟩⟩⟩),
    SparseCore.bigSep_erase' (i := cell d L cc1_scoped5.sem) (Finset.mem_erase.mpr ⟨cell_ne d L (show (SemLoc.dma cc1_scoped5.sem : SemLoc sig) ≠ SemLoc.dma cc1_scoped4.sem by decide), Finset.mem_erase.mpr ⟨cell_ne d L (show (SemLoc.dma cc1_scoped5.sem : SemLoc sig) ≠ SemLoc.dma cc1_scoped3.sem by decide), Finset.mem_erase.mpr ⟨cell_ne d L (show (SemLoc.dma cc1_scoped5.sem : SemLoc sig) ≠ SemLoc.dma cc1_scoped2.sem by decide), Finset.mem_erase.mpr ⟨cell_ne d L (show (SemLoc.dma cc1_scoped5.sem : SemLoc sig) ≠ SemLoc.dma cc1_scoped1.sem by decide), Finset.mem_erase.mpr ⟨cell_ne d L (show (SemLoc.dma cc1_scoped5.sem : SemLoc sig) ≠ SemLoc.dma cc1_scoped0.sem by decide), cell_mem d L (by decide)⟩⟩⟩⟩⟩),
    SparseCore.bigSep_erase' (i := cell d L cc1_scoped6.sem) (Finset.mem_erase.mpr ⟨cell_ne d L (show (SemLoc.dma cc1_scoped6.sem : SemLoc sig) ≠ SemLoc.dma cc1_scoped5.sem by decide), Finset.mem_erase.mpr ⟨cell_ne d L (show (SemLoc.dma cc1_scoped6.sem : SemLoc sig) ≠ SemLoc.dma cc1_scoped4.sem by decide), Finset.mem_erase.mpr ⟨cell_ne d L (show (SemLoc.dma cc1_scoped6.sem : SemLoc sig) ≠ SemLoc.dma cc1_scoped3.sem by decide), Finset.mem_erase.mpr ⟨cell_ne d L (show (SemLoc.dma cc1_scoped6.sem : SemLoc sig) ≠ SemLoc.dma cc1_scoped2.sem by decide), Finset.mem_erase.mpr ⟨cell_ne d L (show (SemLoc.dma cc1_scoped6.sem : SemLoc sig) ≠ SemLoc.dma cc1_scoped1.sem by decide), Finset.mem_erase.mpr ⟨cell_ne d L (show (SemLoc.dma cc1_scoped6.sem : SemLoc sig) ≠ SemLoc.dma cc1_scoped0.sem by decide), cell_mem d L (by decide)⟩⟩⟩⟩⟩⟩),
    SparseCore.bigSep_erase' (i := cell d L cc1_scoped7.sem) (Finset.mem_erase.mpr ⟨cell_ne d L (show (SemLoc.dma cc1_scoped7.sem : SemLoc sig) ≠ SemLoc.dma cc1_scoped6.sem by decide), Finset.mem_erase.mpr ⟨cell_ne d L (show (SemLoc.dma cc1_scoped7.sem : SemLoc sig) ≠ SemLoc.dma cc1_scoped5.sem by decide), Finset.mem_erase.mpr ⟨cell_ne d L (show (SemLoc.dma cc1_scoped7.sem : SemLoc sig) ≠ SemLoc.dma cc1_scoped4.sem by decide), Finset.mem_erase.mpr ⟨cell_ne d L (show (SemLoc.dma cc1_scoped7.sem : SemLoc sig) ≠ SemLoc.dma cc1_scoped3.sem by decide), Finset.mem_erase.mpr ⟨cell_ne d L (show (SemLoc.dma cc1_scoped7.sem : SemLoc sig) ≠ SemLoc.dma cc1_scoped2.sem by decide), Finset.mem_erase.mpr ⟨cell_ne d L (show (SemLoc.dma cc1_scoped7.sem : SemLoc sig) ≠ SemLoc.dma cc1_scoped1.sem by decide), Finset.mem_erase.mpr ⟨cell_ne d L (show (SemLoc.dma cc1_scoped7.sem : SemLoc sig) ≠ SemLoc.dma cc1_scoped0.sem by decide), cell_mem d L (by decide)⟩⟩⟩⟩⟩⟩⟩)]

/-- Two different buffers are different references. -/
theorem ref_ne {r r' : Ref sig .scVector} (h : r ≠ r') : (Proc.scVector (cV L) (jV L)).devRef r ≠ (Proc.scVector (cV L) (jV L)).devRef r' :=
  fun e => h (Proc.devRef_injective _ e)

/-- The tile's own buffers are its eight scratches, each at some contents, and the rest. -/
theorem ownBufs_V : (ownBufs (VT d L) : sProp 𝕄)
    = iprop((∃ f, (VT d L).loc cc1_scratch0 ↦{fullShare} f) ∗ (∃ f, (VT d L).loc cc1_scratch1 ↦{fullShare} f) ∗ (∃ f, (VT d L).loc cc1_scratch2 ↦{fullShare} f) ∗ (∃ f, (VT d L).loc cc1_scratch3 ↦{fullShare} f) ∗ (∃ f, (VT d L).loc cc1_scratch4 ↦{fullShare} f) ∗ (∃ f, (VT d L).loc cc1_scratch5 ↦{fullShare} f) ∗ (∃ f, (VT d L).loc cc1_scratch6 ↦{fullShare} f) ∗ (∃ f, (VT d L).loc cc1_scratch7 ↦{fullShare} f)
        ∗ bigSep (((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨ref_ne L (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨ref_ne L (show (cc1_scratch2 : Ref sig .scVector) ≠ cc1_scratch1 by decide), Finset.mem_erase.mpr ⟨ref_ne L (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨ref_ne L (show (cc1_scratch3 : Ref sig .scVector) ≠ cc1_scratch2 by decide), Finset.mem_erase.mpr ⟨ref_ne L (show (cc1_scratch3 : Ref sig .scVector) ≠ cc1_scratch1 by decide), Finset.mem_erase.mpr ⟨ref_ne L (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨ref_ne L (show (cc1_scratch4 : Ref sig .scVector) ≠ cc1_scratch3 by decide), Finset.mem_erase.mpr ⟨ref_ne L (show (cc1_scratch4 : Ref sig .scVector) ≠ cc1_scratch2 by decide), Finset.mem_erase.mpr ⟨ref_ne L (show (cc1_scratch4 : Ref sig .scVector) ≠ cc1_scratch1 by decide), Finset.mem_erase.mpr ⟨ref_ne L (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨ref_ne L (show (cc1_scratch5 : Ref sig .scVector) ≠ cc1_scratch4 by decide), Finset.mem_erase.mpr ⟨ref_ne L (show (cc1_scratch5 : Ref sig .scVector) ≠ cc1_scratch3 by decide), Finset.mem_erase.mpr ⟨ref_ne L (show (cc1_scratch5 : Ref sig .scVector) ≠ cc1_scratch2 by decide), Finset.mem_erase.mpr ⟨ref_ne L (show (cc1_scratch5 : Ref sig .scVector) ≠ cc1_scratch1 by decide), Finset.mem_erase.mpr ⟨ref_ne L (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨ref_ne L (show (cc1_scratch6 : Ref sig .scVector) ≠ cc1_scratch5 by decide), Finset.mem_erase.mpr ⟨ref_ne L (show (cc1_scratch6 : Ref sig .scVector) ≠ cc1_scratch4 by decide), Finset.mem_erase.mpr ⟨ref_ne L (show (cc1_scratch6 : Ref sig .scVector) ≠ cc1_scratch3 by decide), Finset.mem_erase.mpr ⟨ref_ne L (show (cc1_scratch6 : Ref sig .scVector) ≠ cc1_scratch2 by decide), Finset.mem_erase.mpr ⟨ref_ne L (show (cc1_scratch6 : Ref sig .scVector) ≠ cc1_scratch1 by decide), Finset.mem_erase.mpr ⟨ref_ne L (show (cc1_scratch6 : Ref sig .scVector) ≠ cc1_scratch0 by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨ref_ne L (show (cc1_scratch7 : Ref sig .scVector) ≠ cc1_scratch6 by decide), Finset.mem_erase.mpr ⟨ref_ne L (show (cc1_scratch7 : Ref sig .scVector) ≠ cc1_scratch5 by decide), Finset.mem_erase.mpr ⟨ref_ne L (show (cc1_scratch7 : Ref sig .scVector) ≠ cc1_scratch4 by decide), Finset.mem_erase.mpr ⟨ref_ne L (show (cc1_scratch7 : Ref sig .scVector) ≠ cc1_scratch3 by decide), Finset.mem_erase.mpr ⟨ref_ne L (show (cc1_scratch7 : Ref sig .scVector) ≠ cc1_scratch2 by decide), Finset.mem_erase.mpr ⟨ref_ne L (show (cc1_scratch7 : Ref sig .scVector) ≠ cc1_scratch1 by decide), Finset.mem_erase.mpr ⟨ref_ne L (show (cc1_scratch7 : Ref sig .scVector) ≠ cc1_scratch0 by decide), SparseCore.Cfg.mem_ownRefs_of_owner (p := Proc.scVector (cV L) (jV L)) (b := (Proc.scVector (cV L) (jV L)).devRef cc1_scratch7) rfl⟩⟩⟩⟩⟩⟩⟩)]

/-- Scratch buffer 0 held by its view is the buffer held. -/
theorem pts_b0 (f : Buf (Elt F) ((VT d L).loc cc1_scratch0)) :
    ((b0).view.loc (VT d L) ↦{fullShare} f : sProp 𝕄) = (VT d L).loc cc1_scratch0 ↦{fullShare} f := rfl
/-- Scratch buffer 1 held by its view is the buffer held. -/
theorem pts_b1 (f : Buf (Elt F) ((VT d L).loc cc1_scratch1)) :
    ((b1).view.loc (VT d L) ↦{fullShare} f : sProp 𝕄) = (VT d L).loc cc1_scratch1 ↦{fullShare} f := rfl
/-- Scratch buffer 2 held by its view is the buffer held. -/
theorem pts_b2 (f : Buf (Elt F) ((VT d L).loc cc1_scratch2)) :
    ((b2).view.loc (VT d L) ↦{fullShare} f : sProp 𝕄) = (VT d L).loc cc1_scratch2 ↦{fullShare} f := rfl
/-- Scratch buffer 3 held by its view is the buffer held. -/
theorem pts_b3 (f : Buf (Elt F) ((VT d L).loc cc1_scratch3)) :
    ((b3).view.loc (VT d L) ↦{fullShare} f : sProp 𝕄) = (VT d L).loc cc1_scratch3 ↦{fullShare} f := rfl
/-- Scratch buffer 4 held by its view is the buffer held. -/
theorem pts_b4 (f : Buf (Elt F) ((VT d L).loc cc1_scratch4)) :
    ((b4).view.loc (VT d L) ↦{fullShare} f : sProp 𝕄) = (VT d L).loc cc1_scratch4 ↦{fullShare} f := rfl
/-- Scratch buffer 5 held by its view is the buffer held. -/
theorem pts_b5 (f : Buf (Elt F) ((VT d L).loc cc1_scratch5)) :
    ((b5).view.loc (VT d L) ↦{fullShare} f : sProp 𝕄) = (VT d L).loc cc1_scratch5 ↦{fullShare} f := rfl
/-- Scratch buffer 6 held by its view is the buffer held. -/
theorem pts_b6 (f : Buf (Elt F) ((VT d L).loc cc1_scratch6)) :
    ((b6).view.loc (VT d L) ↦{fullShare} f : sProp 𝕄) = (VT d L).loc cc1_scratch6 ↦{fullShare} f := rfl
/-- Scratch buffer 7 held by its view is the buffer held. -/
theorem pts_b7 (f : Buf (Elt F) ((VT d L).loc cc1_scratch7)) :
    ((b7).view.loc (VT d L) ↦{fullShare} f : sProp 𝕄) = (VT d L).loc cc1_scratch7 ↦{fullShare} f := rfl
set_option maxHeartbeats 4000000 in
/-- The task: the three reads' pieces come back unchanged and the three blocks of results hold the kernel's. -/
theorem tile_body (hF : (K (F := F)).Facts) (qx qq qm : PosShare TreeShare) (xf : Buf (Elt F) ((xV).view.loc (VT d L))) (qf : Buf (Elt F) ((qV).view.loc (VT d L)))
    (mw : Buf (Elt F) ((mV).view.loc (VT d L))) (f0 : Buf (Elt F) ((oV).view.loc (VT d L)))
    (O : CellTallies nD τ sig (HIx 1)) (W : Waits sig (HIx 1)) (hO : ∀ g, O g none = 0) :
    (iprop(levAts (K (F := F)).L (K (F := F)).lev ∗ emp
        ∗ (((xV).view.loc (VT d L) ↦{qx} xf) ∗ ((qV).view.loc (VT d L) ↦{qq} qf) ∗ ((mV).view.loc (VT d L) ↦{qm} mw)
          ∗ ((oS L 0).view.loc (VT d L) ↦[(oS L 0).view.set]{fullShare} f0) ∗ ((oS L 1).view.loc (VT d L) ↦[(oS L 1).view.set]{fullShare} f0)
          ∗ ((oS L 2).view.loc (VT d L) ↦[(oS L 2).view.set]{fullShare} f0))
        ∗ scopedBufs (VT d L) ∗ scopedSems0 (VT d L) ∗ owes (VT d L) O W) : sProp 𝕄)
      ⊢ wp frame (wpE (defs₀ (F := F)) 𝒱₀ (VT d L) none) Set.univ
          (cc1_grouped (F := F) L xV (Memref.isWhole_whole _) qV (Memref.isWhole_whole _) mV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) b7 (Memref.isWhole_whole _)
            cc1_scoped0 cc1_scoped1 cc1_scoped2 cc1_scoped3 cc1_scoped4 cc1_scoped5 cc1_scoped6 cc1_scoped7)
          fun _ => iprop((((xV).view.loc (VT d L) ↦{qx} xf) ∗ ((qV).view.loc (VT d L) ↦{qq} qf) ∗ ((mV).view.loc (VT d L) ↦{qm} mw)
          ∗ ((oS L 0).view.loc (VT d L) ↦[(oS L 0).view.set]{fullShare} (outv xf qf mw : Buf (Elt F) ((oS L 0).view.loc (VT d L))))
          ∗ ((oS L 1).view.loc (VT d L) ↦[(oS L 1).view.set]{fullShare} (outv xf qf mw : Buf (Elt F) ((oS L 1).view.loc (VT d L))))
          ∗ ((oS L 2).view.loc (VT d L) ↦[(oS L 2).view.set]{fullShare} (outv xf qf mw : Buf (Elt F) ((oS L 2).view.loc (VT d L)))))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hq, Hm, Ho0, Ho1, Ho2⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨Hs0, Hs1, Hs2, Hs3, Hs4, Hs5, Hs6, Hs7, Hsems⟩, HO⟩
  ihave #Hmw := (show levAts (K (F := F)).L (K (F := F)).lev ⊢ Transfers.MayWaits (VT d L) (default : HIx 1) O from
    (K (F := F)).mayWaits_none (thr := VT d L) hO) $$ Hlv
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  ihave H5' := (Entails.of_eq (pts_b5 (F := F) d L _).symm) $$ H5
  ihave H6' := (Entails.of_eq (pts_b6 (F := F) d L _).symm) $$ H6
  ihave H7' := (Entails.of_eq (pts_b7 (F := F) d L _).symm) $$ H7
  rw [cc1_grouped_eq_skeleton]
  unfold cc1_grouped_skel
  rw [k1_part4_eq_skeleton, k1_part5_eq_skeleton, k1_part6_eq_skeleton]
  unfold k1_part4_skel k1_part5_skel k1_part6_skel
  sl_exec (disch := exact View.amount_pos _ _ (show 0 < S8192.numel by decide))
  let fx : Fin 3 → S8192.Idx → F .f32 := fun c y => xf (iX (3 * bT L + c.val) (y 0).val)
  let fq : S384.Idx → F .f32 := fun y => qf (iQ (384 * (2 * (L 1).val + (L 0).val) + (y 0).val))
  ihave G0 := (show ((b0).view.loc (VT d L) ↦{fullShare} View.write (Elt F) (b0).view f0 (tile_body.sl.dma0 d L xf) Finset.univ : sProp 𝕄)
      ⊢ ((b0).view.loc (VT d L) ↦{fullShare} (fx 0 : Buf (Elt F) ((b0).view.loc (VT d L)))) from Entails.of_eq (congrArg (fun g => ((b0).view.loc (VT d L) ↦{fullShare} g : sProp 𝕄))
    ((View.write_whole_univ cc1_scratch0 f0 _).trans (funext fun x => xrow_read d L 0 xf x)))) $$ H0'
  ihave G1 := (show ((b1).view.loc (VT d L) ↦{fullShare} View.write (Elt F) (b1).view f1 (tile_body.sl.dma0_1 d L xf) Finset.univ : sProp 𝕄)
      ⊢ ((b1).view.loc (VT d L) ↦{fullShare} (fx 1 : Buf (Elt F) ((b1).view.loc (VT d L)))) from Entails.of_eq (congrArg (fun g => ((b1).view.loc (VT d L) ↦{fullShare} g : sProp 𝕄))
    ((View.write_whole_univ cc1_scratch1 f1 _).trans (funext fun x => xrow_read d L 1 xf x)))) $$ H1'
  ihave G2 := (show ((b2).view.loc (VT d L) ↦{fullShare} View.write (Elt F) (b2).view f2 (tile_body.sl.dma0_2 d L xf) Finset.univ : sProp 𝕄)
      ⊢ ((b2).view.loc (VT d L) ↦{fullShare} (fx 2 : Buf (Elt F) ((b2).view.loc (VT d L)))) from Entails.of_eq (congrArg (fun g => ((b2).view.loc (VT d L) ↦{fullShare} g : sProp 𝕄))
    ((View.write_whole_univ cc1_scratch2 f2 _).trans (funext fun x => xrow_read d L 2 xf x)))) $$ H2'
  ihave G3 := (show ((b3).view.loc (VT d L) ↦{fullShare} View.write (Elt F) (b3).view f3 (tile_body.sl.dma0_3 d L qf) Finset.univ : sProp 𝕄)
      ⊢ ((b3).view.loc (VT d L) ↦{fullShare} (fq : Buf (Elt F) ((b3).view.loc (VT d L)))) from Entails.of_eq (congrArg (fun g => ((b3).view.loc (VT d L) ↦{fullShare} g : sProp 𝕄))
    ((View.write_whole_univ cc1_scratch3 f3 _).trans (funext fun x => q_read d L qf x)))) $$ H3'
  rw [Prog.bind_assoc, Prog.bind_assoc]
  sl_for (inv1 (F := F) d L O qm mw fx fq) $$ [Hm G0 G1 G2 G3 H4' H5' H6' H7' Hs4 HO]
  case region =>
    intro t1 u
    exact t1_step d L O qm mw fx fq _ _ _ _ t1
  · unfold inv1
    isplitr; · iexact Hmw
    isplitl [Hm]; · iexact Hm
    isplitl [G0]; · iexact G0
    isplitl [G1]; · iexact G1
    isplitl [G2]; · iexact G2
    isplitl [G3]; · iexact G3
    isplitl [H4']; · iexists f4; iexact H4'
    isplitl [H5']; · iexists f5; iexact H5'
    isplitl [H7']; · iexists f7; iexact H7'
    isplitl [H6']
    · iexists f6
      isplitr
      · ipureintro; exact fun _ h => absurd h (Nat.not_lt_zero _)
      · iexact H6'
    isplitl [Hs4]; · iexact Hs4
    iexists _; iexact HO
  iintro %_u Hinv
  ihave Hinv := (show inv1 (F := F) d L O qm mw fx fq _ _u ⊢ _ by unfold inv1; exact .rfl) $$ Hinv
  icases Hinv with ⟨-, Hm, G0, G1, G2, G3, ⟨%g4, G4⟩, ⟨%g5, G5⟩, ⟨%g7, G7⟩, ⟨%g6, %h6, G6⟩, Hs4, %W1, HO⟩
  have ht : Scf.trips k1_t1_loop.lb k1_t1_loop.ub k1_t1_loop.st = 128 := by decide
  rw [ht] at h6
  sl_exec (disch := exact View.amount_pos _ _ (show 0 < S128x32.numel by decide))
  rw [wp_ret]
  imodintro
  have hr6 (c : Fin 3) (x : S128x32.Idx) : g6 (fun | 0 => c | 1 => x 0 | 2 => x 1) = res L mw fx fq c (x 0).val (x 1).val :=
    h6 _ (show (x 0).val < 128 from (x 0).isLt)
  isplitl [Hx Hq Hm Ho0 Ho1 Ho2]
  · isplitl [Hx]; · iexact Hx
    isplitl [Hq]; · iexact Hq
    isplitl [Hm]; · iexact Hm
    isplitl [Ho0]
    · ihave Ho0' := (Entails.of_eq (out_eq d L 0 xf qf mw _ (tile_body.sl.dma0_4 d L g6) (fun x => (slab_read d L 0 _ g6 x).trans (hr6 0 x)))) $$ Ho0
      iexact Ho0'
    isplitl [Ho1]
    · ihave Ho1' := (Entails.of_eq (out_eq d L 1 xf qf mw _ (tile_body.sl.dma0_5 d L g6) (fun x => (slab_read d L 1 _ g6 x).trans (hr6 1 x)))) $$ Ho1
      iexact Ho1'
    · ihave Ho2' := (Entails.of_eq (out_eq d L 2 xf qf mw _ (tile_body.sl.dma0_6 d L g6) (fun x => (slab_read d L 2 _ g6 x).trans (hr6 2 x)))) $$ Ho2
      iexact Ho2'
  isplitl [G0 G1 G2 G3 G4 G5 G6 G7 Hbufs]
  · isplitl [G0]; · iexists _; iapply (Entails.of_eq (pts_b0 (F := F) d L _)) $$ G0
    isplitl [G1]; · iexists _; iapply (Entails.of_eq (pts_b1 (F := F) d L _)) $$ G1
    isplitl [G2]; · iexists _; iapply (Entails.of_eq (pts_b2 (F := F) d L _)) $$ G2
    isplitl [G3]; · iexists _; iapply (Entails.of_eq (pts_b3 (F := F) d L _)) $$ G3
    isplitl [G4]; · iexists _; iapply (Entails.of_eq (pts_b4 (F := F) d L _)) $$ G4
    isplitl [G5]; · iexists _; iapply (Entails.of_eq (pts_b5 (F := F) d L _)) $$ G5
    isplitl [G6]; · iexists _; iapply (Entails.of_eq (pts_b6 (F := F) d L _)) $$ G6
    isplitl [G7]; · iexists _; iapply (Entails.of_eq (pts_b7 (F := F) d L _)) $$ G7
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists _
  isplitr
  rotate_left
  · iexact HO
  · ipureintro
    intro p _
    rcases p.2 with _ | q
    · exact .inr (.inl rfl)
    · exact .inr (.inr (congrArg some (Subsingleton.elim q 0)))

end Tile
end Cert.Proof.Grp
-- ==== Proof.Own.Pay.lean ====
/-
  The SparseCore call: what its handshakes carry, and that its task keeps to it.
-/
module

public import proofs.«01_k».proof.Proof.Own.Tile

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S12x8192 EltTy.f32)
local notation "qV" => (Memref.whole Cert.KernelIdeal.main_v6_scv : Memref Cert.KernelIdeal.sig Kind.scVector Space.hbm Cert.KernelIdeal.S12288 EltTy.f32)
local notation "mV" => (Memref.whole Cert.KernelIdeal.main_v3_scv : Memref Cert.KernelIdeal.sig Kind.scVector Space.hbm Cert.KernelIdeal.S4096x16x128 EltTy.i32)
local notation "oV" => (Memref.whole Cert.KernelIdeal.main_v7_scv : Memref Cert.KernelIdeal.sig Kind.scVector Space.hbm Cert.KernelIdeal.S12288x32 EltTy.f32)
local notation "b0" => (Memref.whole Cert.KernelIdeal.cc1_scratch0 : Memref Cert.KernelIdeal.sig Kind.scVector Space.vmem Cert.KernelIdeal.S8192 EltTy.f32)
local notation "b1" => (Memref.whole Cert.KernelIdeal.cc1_scratch1 : Memref Cert.KernelIdeal.sig Kind.scVector Space.vmem Cert.KernelIdeal.S8192 EltTy.f32)
local notation "b2" => (Memref.whole Cert.KernelIdeal.cc1_scratch2 : Memref Cert.KernelIdeal.sig Kind.scVector Space.vmem Cert.KernelIdeal.S8192 EltTy.f32)
local notation "b3" => (Memref.whole Cert.KernelIdeal.cc1_scratch3 : Memref Cert.KernelIdeal.sig Kind.scVector Space.vmem Cert.KernelIdeal.S384 EltTy.f32)
local notation "b4" => (Memref.whole Cert.KernelIdeal.cc1_scratch4 : Memref Cert.KernelIdeal.sig Kind.scVector Space.vmem Cert.KernelIdeal.S128 EltTy.i32)
local notation "b5" => (Memref.whole Cert.KernelIdeal.cc1_scratch5 : Memref Cert.KernelIdeal.sig Kind.scVector Space.vmem Cert.KernelIdeal.S544 EltTy.i32)
local notation "b6" => (Memref.whole Cert.KernelIdeal.cc1_scratch6 : Memref Cert.KernelIdeal.sig Kind.scVector Space.vmem Cert.KernelIdeal.S3x128x32 EltTy.f32)
local notation "b7" => (Memref.whole Cert.KernelIdeal.cc1_scratch7 : Memref Cert.KernelIdeal.sig Kind.scVector Space.smem Cert.KernelIdeal.S1 EltTy.i32)

/-! ## The buffers of the SparseCore call -/

/-- The coordinate rows, the flat queries, the mask words and the results, as locations of device `d`. -/
abbrev xLoc (d : Dev nD) : Loc nD τ sig := (SparseCore.T d).loc main_v5
abbrev qLoc (d : Dev nD) : Loc nD τ sig := (SparseCore.T d).loc main_v6
abbrev mLoc (d : Dev nD) : Loc nD τ sig := (SparseCore.T d).loc main_v3
abbrev oLoc (d : Dev nD) : Loc nD τ sig := (SparseCore.T d).loc main_v7

def coordsV (c : Fin (grid1.bound 0)) (s : Fin (grid1.bound 1)) : grid1.Coords :=
  fun | 0 => c | 1 => s | ⟨_ + 2, h⟩ => absurd h (Nat.not_lt.2 (Nat.le_add_left _ _))

/-- The results' rows that subcore `s` of core `c` writes for coordinate `r`. -/
abbrev blkSet (c : Fin 2) (s : Fin 16) (r : Fin 3) : Finset S12288x32.Idx := (oS (coordsV c s) r).view.set

/-- The shares of what is read: each core's, and each of its tiles'. -/
abbrev qc (c : Fin 2) : PosShare TreeShare := Transfers.dealOf fullShare (Finset.univ : Finset (Fin 2)) c
abbrev qt (c : Fin 2) (s : Fin 16) : PosShare TreeShare := Transfers.dealOf (qc c) (Finset.univ : Finset (Fin 16)) s

/-- Which rows are a tile's. -/
theorem mem_blkSet (c : Fin 2) (s : Fin 16) (r : Fin 3) (y : S12288x32.Idx) :
    y ∈ blkSet c s r ↔ (y 0).val / 128 = 24 * ((2 * s.val + c.val) / 8) + 8 * r.val + (2 * s.val + c.val) % 8 := by
  have e := off11_eq (coordsV c s) r
  have hb : bT (coordsV c s) = (2 * s.val + c.val) / 8 := rfl
  have hk : kT (coordsV c s) = (2 * s.val + c.val) % 8 * 128 := rfl
  rw [hb, hk] at e
  show y ∈ ((View.whole (main_v7_scv : Ref sig .scVector)).slice (Rect.unit (s := S12288x32) (k1_off11 (coordsV c s) (BitVec.ofNat 32 (1024 * r.val))) S128x32.size (k1_off11_inb (coordsV c s) r))).set ↔ _
  rw [View.set_slice_whole, Rect.mem_set_unit]
  have h1 : (y 1).val < 32 := (y 1).isLt
  constructor
  · intro h
    have h0 := h 0
    rw [congrFun e 0] at h0
    have h0' : 3072 * ((2 * s.val + c.val) / 8) + 1024 * r.val + (2 * s.val + c.val) % 8 * 128 ≤ (y 0).val
      ∧ (y 0).val < 3072 * ((2 * s.val + c.val) / 8) + 1024 * r.val + (2 * s.val + c.val) % 8 * 128 + 128 := h0
    omega
  · intro h a
    rw [congrFun e a]
    match a with
    | 0 => exact (show 3072 * ((2 * s.val + c.val) / 8) + 1024 * r.val + (2 * s.val + c.val) % 8 * 128 ≤ (y 0).val
      ∧ (y 0).val < 3072 * ((2 * s.val + c.val) / 8) + 1024 * r.val + (2 * s.val + c.val) % 8 * 128 + 128 by omega)
    | 1 => exact (show 0 ≤ (y 1).val ∧ (y 1).val < 0 + 32 by omega)

/-- Two tiles write different rows. -/
theorem blk_disjoint : ∀ i ∈ (Finset.univ : Finset (Fin 2 × Fin 16 × Fin 3)), ∀ j ∈ (Finset.univ : Finset (Fin 2 × Fin 16 × Fin 3)), i ≠ j →
    Disjoint (blkSet i.1 i.2.1 i.2.2) (blkSet j.1 j.2.1 j.2.2) := by
  rintro ⟨c, s, r⟩ - ⟨c', s', r'⟩ - h
  refine Finset.disjoint_left.mpr fun y hy hy' => h ?_
  rw [mem_blkSet] at hy hy'
  dsimp only at hy hy'
  have hc := c.isLt
  have hs := s.isLt
  have hr := r.isLt
  have hc' := c'.isLt
  have hs' := s'.isLt
  have hr' := r'.isLt
  have e1 : c.val = c'.val := by omega
  have e2 : s.val = s'.val := by omega
  have e3 : r.val = r'.val := by omega
  rw [Fin.ext e1, Fin.ext e2, Fin.ext e3]

/-- Every row is some tile's. -/
theorem blk_cover : (Finset.univ : Finset (Fin 2 × Fin 16 × Fin 3)).biUnion (fun i => blkSet i.1 i.2.1 i.2.2) = Finset.univ := by
  refine Finset.eq_univ_of_forall fun y => ?_
  have h0 : (y 0).val < 12288 := (y 0).isLt
  refine Finset.mem_biUnion.mpr ⟨(⟨((y 0).val / 128 % 8) % 2, by omega⟩, ⟨(y 0).val / 3072 * 4 + ((y 0).val / 128 % 8) / 2, by omega⟩, ⟨(y 0).val / 1024 % 3, by omega⟩), Finset.mem_univ _, ?_⟩
  rw [mem_blkSet]
  dsimp only
  omega

/-! ## What the handshakes carry -/

variable (V : Dev nD → Valuation τ sig (Elt F))

abbrev xf (d : Dev nD) : S12x8192.Idx → F .f32 := V d (Proc.devRef .tc main_v5)
abbrev qf (d : Dev nD) : S12288.Idx → F .f32 := V d (Proc.devRef .tc main_v6)
abbrev mw (d : Dev nD) : S4096x16x128.Idx → BitVec 32 := V d (Proc.devRef .tc main_v3)
abbrev of (d : Dev nD) : S12288x32.Idx → F .f32 := V d (Proc.devRef .tc main_v7)
/-- What the call leaves. -/
abbrev og (d : Dev nD) : S12288x32.Idx → F .f32 := outv (xf V d) (qf V d) (mw V d)

/-- What is read, at a share. -/
abbrev rds (d : Dev nD) (q : PosShare TreeShare) : sProp 𝕄 :=
  iprop((xLoc d ↦{q} (xf V d : Buf (Elt F) (xLoc d))) ∗ (qLoc d ↦{q} (qf V d : Buf (Elt F) (qLoc d))) ∗ (mLoc d ↦{q} (mw V d : Buf (Elt F) (mLoc d))))
/-- A tile's blocks of the results. -/
abbrev oTile (d : Dev nD) (c : Fin 2) (s : Fin 16) (g : S12288x32.Idx → F .f32) : sProp 𝕄 :=
  bigSep Finset.univ fun r : Fin 3 => oLoc d ↦[blkSet c s r]{fullShare} (g : Buf (Elt F) (oLoc d))
/-- A core's. -/
abbrev oCore (d : Dev nD) (c : Fin 2) (g : S12288x32.Idx → F .f32) : sProp 𝕄 := bigSep Finset.univ fun s : Fin 16 => oTile d c s g

/-- The call hands each core its share of what is read and its tiles' blocks of the results, each core each tile its own; they come
    back with the results written. -/
def P : (K (F := F)).Pay (nD := nD) (Val := Elt F) (Name := ℕ) (U := UU) where
  st := fun q d c => match q with | 0 => iprop(rds V d (qc (Fin.cast nCore_zero c)) ∗ oCore d (Fin.cast nCore_zero c) (of V d))
  dn := fun q d c => match q with | 0 => iprop(rds V d (qc (Fin.cast nCore_zero c)) ∗ oCore d (Fin.cast nCore_zero c) (og V d))
  go := fun q d c i => match q with
    | 0 => iprop(rds V d (qt (Fin.cast nCore_zero c) (Fin.cast nSub_zero i)) ∗ oTile d (Fin.cast nCore_zero c) (Fin.cast nSub_zero i) (of V d))
  td := fun q d c i => match q with
    | 0 => iprop(rds V d (qt (Fin.cast nCore_zero c) (Fin.cast nSub_zero i)) ∗ oTile d (Fin.cast nCore_zero c) (Fin.cast nSub_zero i) (og V d))
  x := fun _ _ => iprop(emp)

instance P_storable : (P (F := F) V).IsStorable where
  st q d c := match q with
    | 0 => (inferInstance : BI.Storable (upEmb : UEmb _ 𝕄) iprop(rds V d (qc (Fin.cast nCore_zero c)) ∗ oCore d (Fin.cast nCore_zero c) (of V d)))
  dn q d c := match q with
    | 0 => (inferInstance : BI.Storable (upEmb : UEmb _ 𝕄) iprop(rds V d (qc (Fin.cast nCore_zero c)) ∗ oCore d (Fin.cast nCore_zero c) (og V d)))
  go q d c i := match q with
    | 0 => (inferInstance : BI.Storable (upEmb : UEmb _ 𝕄) iprop(rds V d (qt (Fin.cast nCore_zero c) (Fin.cast nSub_zero i)) ∗ oTile d (Fin.cast nCore_zero c) (Fin.cast nSub_zero i) (of V d)))
  td q d c i := match q with
    | 0 => (inferInstance : BI.Storable (upEmb : UEmb _ 𝕄) iprop(rds V d (qt (Fin.cast nCore_zero c) (Fin.cast nSub_zero i)) ∗ oTile d (Fin.cast nCore_zero c) (Fin.cast nSub_zero i) (og V d)))

/-! ## The task's obligation -/

/-- What a tile runs. -/
theorem defs₀_vector (c : Fin τ.nSC) (s : Fin τ.nSub) :
    defs₀ (F := F) (.scVector c s) 1 ()
      = SparseCore.onTile hcore1 hsub1 (fun c s => cc1_grouped (coordsV c s)
          xV (Memref.isWhole_whole _) qV (Memref.isWhole_whole _) mV (Memref.isWhole_whole _) oV (Memref.isWhole_whole _)
            b0 (Memref.isWhole_whole _) b1 (Memref.isWhole_whole _) b2 (Memref.isWhole_whole _) b3 (Memref.isWhole_whole _) b4 (Memref.isWhole_whole _)
            b5 (Memref.isWhole_whole _) b6 (Memref.isWhole_whole _) b7 (Memref.isWhole_whole _)
            cc1_scoped0 cc1_scoped1 cc1_scoped2 cc1_scoped3 cc1_scoped4 cc1_scoped5 cc1_scoped6 cc1_scoped7) ⟨⟩ c s := rfl

/-- A tile's share of the result, by coordinates. -/
theorem oTile_eq (d : Dev nD) (c : Fin 2) (s : Fin 16) (g : S12288x32.Idx → F .f32) :
    (oTile d c s g : sProp 𝕄) = iprop((oLoc d ↦[blkSet c s 0]{fullShare} (g : Buf (Elt F) (oLoc d))) ∗ (oLoc d ↦[blkSet c s 1]{fullShare} (g : Buf (Elt F) (oLoc d)))
      ∗ (oLoc d ↦[blkSet c s 2]{fullShare} (g : Buf (Elt F) (oLoc d)))) := by
  unfold oTile
  rw [show (Finset.univ : Finset (Fin 3)) = {0, 1, 2} from by decide, SparseCore.bigSep_insert' (by decide), SparseCore.bigSep_insert' (by decide), bigSep_singleton]

/-- Reordering of a product. -/
theorem sep_regroup (A B C E : sProp 𝕄) : iprop((A ∗ B ∗ C) ∗ E) = iprop(A ∗ B ∗ C ∗ E) := by
  refine BI.Entails.antisymm (show iprop((A ∗ B ∗ C) ∗ E) ⊢ iprop(A ∗ B ∗ C ∗ E) from ?_) (show iprop(A ∗ B ∗ C ∗ E) ⊢ iprop((A ∗ B ∗ C) ∗ E) from ?_)
  · iintro ⟨⟨H1, H2, H3⟩, H4⟩
    isplitl [H1]; · iexact H1
    isplitl [H2]; · iexact H2
    isplitl [H3] <;> iassumption
  · iintro ⟨H1, H2, H3, H4⟩
    isplitl [H1 H2 H3]
    · isplitl [H1]; · iexact H1
      isplitl [H2] <;> iassumption
    iexact H4

/-- A tile's share of the arrays, one by one. -/
theorem tile_pts (d : Dev nD) (c : Fin 2) (s : Fin 16) (g : S12288x32.Idx → F .f32) :
    (iprop(rds V d (qt c s) ∗ oTile d c s g) : sProp 𝕄) = iprop((xLoc d ↦{qt c s} (xf V d : Buf (Elt F) (xLoc d))) ∗ (qLoc d ↦{qt c s} (qf V d : Buf (Elt F) (qLoc d)))
      ∗ (mLoc d ↦{qt c s} (mw V d : Buf (Elt F) (mLoc d))) ∗ (oLoc d ↦[blkSet c s 0]{fullShare} (g : Buf (Elt F) (oLoc d)))
      ∗ (oLoc d ↦[blkSet c s 1]{fullShare} (g : Buf (Elt F) (oLoc d))) ∗ (oLoc d ↦[blkSet c s 2]{fullShare} (g : Buf (Elt F) (oLoc d)))) := by
  rw [oTile_eq, sep_regroup]

/-- Each tile meets what the handshakes ask of it. -/
theorem tileObl (hF : (K (F := F)).Facts) : (K (F := F)).TileObl (D (F := F)) 𝒱 (P V) v₀ 0 := by
  intro d c i O W hO _ _
  simp only [show (P V).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) hF (qt (Fin.cast nCore_zero c) (Fin.cast nSub_zero i)) (qt (Fin.cast nCore_zero c) (Fin.cast nSub_zero i))
    (qt (Fin.cast nCore_zero c) (Fin.cast nSub_zero i)) (xf V d) (qf V d) (mw V d) (of V d) O W hO
  rw [show (P V).go 0 d c i = _ from tile_pts V d _ _ (of V d), show (P V).td 0 d c i = _ from tile_pts V d _ _ (og V d)]
  exact h

/-! ## The shares and blocks split and join -/

/-- A product over the tasks of the call is one over the 16 tiles of a core. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A product over the cores has two factors. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- What is read, dealt. -/
theorem rds_deal {n : ℕ} [NeZero n] (d : Dev nD) (q : PosShare TreeShare) :
    (rds V d q : sProp 𝕄) = bigSep Finset.univ fun i : Fin n => rds V d (Transfers.dealOf q Finset.univ i) := by
  rw [bigSep_sep', bigSep_sep', ← Transfers.pointsTo_deal Finset.univ ⟨0, Finset.mem_univ _⟩ q, ← Transfers.pointsTo_deal Finset.univ ⟨0, Finset.mem_univ _⟩ q,
    ← Transfers.pointsTo_deal Finset.univ ⟨0, Finset.mem_univ _⟩ q]

/-- The operands split among cores and tiles, and join again. -/
theorem vecSplit : (K (F := F)).VecSplit' (P V) 0 := by
  intro d c
  show iprop(rds V d (qc (Fin.cast nCore_zero c)) ∗ oCore d (Fin.cast nCore_zero c) (of V d)) ⊢ |={Set.univ}=> iprop(
      (bigSep Finset.univ fun i : Fin ((K (F := F)).nSub 0) => iprop(rds V d (qt (Fin.cast nCore_zero c) (Fin.cast nSub_zero i)) ∗ oTile d (Fin.cast nCore_zero c) (Fin.cast nSub_zero i) (of V d)))
      ∗ ((bigSep Finset.univ fun i : Fin ((K (F := F)).nSub 0) => iprop(rds V d (qt (Fin.cast nCore_zero c) (Fin.cast nSub_zero i)) ∗ oTile d (Fin.cast nCore_zero c) (Fin.cast nSub_zero i) (og V d)))
          -∗ iprop(rds V d (qc (Fin.cast nCore_zero c)) ∗ oCore d (Fin.cast nCore_zero c) (og V d))))
  rw [bigSep_tasks (F := F) (fun i => iprop(rds V d (qt (Fin.cast nCore_zero c) i) ∗ oTile d (Fin.cast nCore_zero c) i (of V d))),
    bigSep_tasks (F := F) (fun i => iprop(rds V d (qt (Fin.cast nCore_zero c) i) ∗ oTile d (Fin.cast nCore_zero c) i (og V d))),
    bigSep_sep' Finset.univ (fun i => rds V d (qt (Fin.cast nCore_zero c) i)), bigSep_sep' Finset.univ (fun i => rds V d (qt (Fin.cast nCore_zero c) i)), ← rds_deal (n := 16)]
  iintro H; imodintro
  isplitl [H]; · iexact H
  iintro H; iexact H

/-- The results whole are the cores' blocks. -/
theorem out_cores (d : Dev nD) (g : S12288x32.Idx → F .f32) :
    (oLoc d ↦{fullShare} (g : Buf (Elt F) (oLoc d)) : sProp 𝕄) = bigSep Finset.univ fun c : Fin 2 => oCore d c g := by
  unfold oCore oTile
  rw [show (bigSep Finset.univ fun c : Fin 2 => bigSep Finset.univ fun s : Fin 16 => bigSep Finset.univ fun r : Fin 3 => (oLoc d ↦[blkSet c s r]{fullShare} (g : Buf (Elt F) (oLoc d)) : sProp 𝕄))
      = bigSep Finset.univ fun i : Fin 2 × Fin 16 × Fin 3 => (oLoc d ↦[blkSet i.1 i.2.1 i.2.2]{fullShare} (g : Buf (Elt F) (oLoc d)) : sProp 𝕄) from by
    rw [bigSep_univ_prod]; exact bigSep_congr fun c _ => (bigSep_univ_prod (fun b : Fin 16 × Fin 3 => (oLoc d ↦[blkSet c b.1 b.2]{fullShare} (g : Buf (Elt F) (oLoc d)) : sProp 𝕄))).symm,
    ← pointsTo_biUnion Finset.univ (ℓ := oLoc d) (fun i : Fin 2 × Fin 16 × Fin 3 => blkSet i.1 i.2.1 i.2.2) blk_disjoint, blk_cover]

/-- What the start of the call hands over. -/
theorem st0_eq (d : Dev nD) :
    (bigSep Finset.univ fun c : Fin ((K (F := F)).nCore 0) => (P V).st 0 d c) = iprop(rds V d fullShare ∗ oLoc d ↦{fullShare} (of V d : Buf (Elt F) (oLoc d))) := by
  show (bigSep Finset.univ fun c : Fin ((K (F := F)).nCore 0) => iprop(rds V d (qc (Fin.cast nCore_zero c)) ∗ oCore d (Fin.cast nCore_zero c) (of V d))) = _
  rw [bigSep_cores (F := F) (fun c => iprop(rds V d (qc c) ∗ oCore d c (of V d))), bigSep_sep' Finset.univ (fun c => rds V d (qc c)), ← rds_deal (n := 2), ← out_cores]

/-- What its end hands back. -/
theorem dn0_eq (d : Dev nD) :
    (bigSep Finset.univ fun c : Fin ((K (F := F)).nCore 0) => (P V).dn 0 d c) = iprop(rds V d fullShare ∗ oLoc d ↦{fullShare} (og V d : Buf (Elt F) (oLoc d))) := by
  show (bigSep Finset.univ fun c : Fin ((K (F := F)).nCore 0) => iprop(rds V d (qc (Fin.cast nCore_zero c)) ∗ oCore d (Fin.cast nCore_zero c) (og V d))) = _
  rw [bigSep_cores (F := F) (fun c => iprop(rds V d (qc c) ∗ oCore d c (og V d))), bigSep_sep' Finset.univ (fun c => rds V d (qc c)), ← rds_deal (n := 2), ← out_cores]

end Cert.Proof.Grp
-- ==== Proof.Own.Mask.lean ====
/-
  The mask call of the TensorCore: what its body computes, and the call as a region of the program.
-/
module

public import proofs.«01_k».proof.Proof.Own.Trip
public import Idealize.ShloMosaic.Lib.Pipeline.ValueKit
public import Idealize.ShloMosaic.Lib.Pipeline.RegionArrays

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The mask call's body -/

/-- Four points' coordinates, one of the four planes of the staged block. -/
abbrev plane (p : S1x4x3x512.Idx → F .f32) (c : Fin 4) : S1x1x3x512.Idx → F .f32 := fun x => p (fun
  | 0 => ⟨0, by decide⟩ | 1 => c | 2 => x 2 | 3 => x 3)

/-- The words the body leaves, from the two blocks it reads. -/
def maskBlk (q : S1x1024x3.Idx → F .f32) (p : S1x4x3x512.Idx → F .f32) : S1x1024x512.Idx → BitVec 32 :=
  k0_pay1 (k0_pay2 q) (k0_pay3 q)
    (k0_pay8 (k0_pay2 q) (k0_pay3 q) (k0_pay4 q (plane p 0)) (k0_pay5 (plane p 1)) (k0_pay6 (plane p 1)) (k0_pay7 (plane p 1)))
    (k0_pay9 (k0_pay2 q) (k0_pay3 q) (plane p 2)) k0_pay10 (plane p 3)

/-- The body's load of the queries reads the whole block. -/
theorem load_q {a2 : Memref sig .tc .vmem S1x1024x3 .f32} (f : a2.view.ty.Contents (Elt F)) :
    (a2.view.readAt (Elt F) (Rect.unit (s := S1x1024x3) ![0, 0, 0] S1x1024x3.size inb_S1x1024x3_S1x1024x3_0_0_0).toLoadRect f) = a2.view.read (Elt F) f := by
  funext x
  rw [View.readAt_apply]
  refine congrArg _ (funext fun a => Fin.ext ?_)
  match a with
  | 0 => show 0 + 1 * (x 0).val = (x 0).val; omega
  | 1 => show 0 + 1 * (x 1).val = (x 1).val; omega
  | 2 => show 0 + 1 * (x 2).val = (x 2).val; omega

/-- The body's load of one plane of the points reads that plane. -/
theorem load_p {a3 : Memref sig .tc .vmem S1x4x3x512 .f32} (f : a3.view.ty.Contents (Elt F)) (c : Fin 4) (inb : ∀ a, (![0, c.val, 0, 0] : Fin 4 → ℕ) a + S1x1x3x512.size a ≤ S1x4x3x512.size a) :
    (a3.view.readAt (Elt F) (Rect.unit (s := S1x4x3x512) ![0, c.val, 0, 0] S1x1x3x512.size inb).toLoadRect f) = plane (a3.view.read (Elt F) f) c := by
  funext x
  rw [View.readAt_apply]
  refine congrArg _ (funext fun a => Fin.ext ?_)
  have h0 : (x 0).val < 1 := (x 0).isLt
  have h1 : (x 1).val < 1 := (x 1).isLt
  match a with
  | 0 => show 0 + 1 * (x 0).val = 0; omega
  | 1 => show c.val + 1 * (x 1).val = c.val; omega
  | 2 => show 0 + 1 * (x 2).val = (x 2).val; omega
  | 3 => show 0 + 1 * (x 3).val = (x 3).val; omega

set_option maxHeartbeats 2000000 in
/-- The body reads its two blocks, leaves them, and leaves the third at the mask words. -/
theorem mask_run (d : Dev nD) (i : grid0.Coords) (a2 : Memref sig .tc .vmem S1x1024x3 .f32) (h2 : a2.IsWhole) (a3 : Memref sig .tc .vmem S1x4x3x512 .f32) (h3 : a3.IsWhole)
    (a4 : Memref sig .tc .vmem S1x1024x512 .i32) (h4 : a4.IsWhole)
    (f2 : Buf (Elt F) (a2.view.loc (d.tc : Thread nD τ))) (f3 : Buf (Elt F) (a3.view.loc (d.tc : Thread nD τ))) (f4 : Buf (Elt F) (a4.view.loc (d.tc : Thread nD τ))) :
    (iprop((a2.view.loc (d.tc : Thread nD τ) ↦[a2.view.set]{fullShare} f2) ∗ (a3.view.loc (d.tc : Thread nD τ) ↦[a3.view.set]{fullShare} f3)
        ∗ (a4.view.loc (d.tc : Thread nD τ) ↦[a4.view.set]{fullShare} f4)) : sProp 𝕄)
      ⊢ wp frame (wpE (defs₀ (F := F)) 𝒱₀ (d.tc : Thread nD τ) none) Set.univ (cc0__mask_body (F := F) i a2 h2 a3 h3 a4 h4)
          fun _ => iprop((a2.view.loc (d.tc : Thread nD τ) ↦[a2.view.set]{fullShare} f2) ∗ (a3.view.loc (d.tc : Thread nD τ) ↦[a3.view.set]{fullShare} f3)
            ∗ ∃ f, ⌜a4.view.read (Elt F) f = maskBlk (a2.view.read (Elt F) f2) (a3.view.read (Elt F) f3)⌝
              ∗ (a4.view.loc (d.tc : Thread nD τ) ↦[a4.view.set]{fullShare} f)) := by
  iintro ⟨H2, H3, H4⟩
  rw [cc0__mask_body_eq_skeleton]
  unfold cc0__mask_body_skel
  rw [k0_part1_eq_skeleton, k0_part2_eq_skeleton]
  unfold k0_part1_skel k0_part2_skel
  sl_exec
  rw [wp_ret]
  imodintro
  isplitl [H2]; · iexact H2
  isplitl [H3]; · iexact H3
  iexists _
  isplitr
  rotate_left
  · iexact H4
  · ipureintro
    have e0 : a3.view.readAt (Elt F) (Rect.unit (s := S1x4x3x512) ![0, 0, 0, 0] S1x1x3x512.size inb_S1x4x3x512_S1x1x3x512_0_0_0_0).toLoadRect f3 = plane (a3.view.read (Elt F) f3) 0 := load_p f3 0 _
    have e1 : a3.view.readAt (Elt F) (Rect.unit (s := S1x4x3x512) ![0, 1, 0, 0] S1x1x3x512.size inb_S1x4x3x512_S1x1x3x512_0_1_0_0).toLoadRect f3 = plane (a3.view.read (Elt F) f3) 1 := load_p f3 1 _
    have e2 : a3.view.readAt (Elt F) (Rect.unit (s := S1x4x3x512) ![0, 2, 0, 0] S1x1x3x512.size inb_S1x4x3x512_S1x1x3x512_0_2_0_0).toLoadRect f3 = plane (a3.view.read (Elt F) f3) 2 := load_p f3 2 _
    have e3 : a3.view.readAt (Elt F) (Rect.unit (s := S1x4x3x512) ![0, 3, 0, 0] S1x1x3x512.size inb_S1x4x3x512_S1x1x3x512_0_3_0_0).toLoadRect f3 = plane (a3.view.read (Elt F) f3) 3 := load_p f3 3 _
    rw [load_q, e0, e1, e2, e3]
    funext x
    exact View.read_writes_cons_unit_of_mem (Val := Elt F) a4.view f4 inb_S1x1024x512_S1x1024x512_0_0_0 _ [] x x rfl (fun a => by
      match a with
      | 0 => exact (Nat.zero_add _).symm
      | 1 => exact (Nat.zero_add _).symm
      | 2 => exact (Nat.zero_add _).symm)

/-! ## The mask call as a region -/

/-- The words of the whole array, block by block. -/
def maskArr (q : S4x1024x3.Idx → F .f32) (p : S4x4x3x2048.Idx → F .f32) : S4x1024x2048.Idx → BitVec 32 := fun y =>
  maskBlk (fun x => q (fun | 0 => y 0 | 1 => x 1 | 2 => x 2))
    (fun x => p (fun
      | 0 => y 0 | 1 => x 1 | 2 => x 2
      | 3 => ⟨(512 * ((y 2).val / 512) + (x 3).val) % 2048, Nat.mod_lt _ (by decide)⟩))
    (fun | 0 => ⟨0, by decide⟩ | 1 => y 1 | 2 => ⟨(y 2).val % 512, Nat.mod_lt _ (by decide)⟩)

/-- A grid point's two coordinates. -/
theorem coords0 : ∀ t : Fin grid0.N, (grid0.coords t 0).val = t.val / 4 ∧ (grid0.coords t 1).val = t.val % 4 := by decide +kernel

section Region

variable (V : Dev nD → Valuation τ sig (Elt F))

/-- What the two arrays the call reads, and the array it writes, hold when it is entered. -/
abbrev arrQ (d : Dev nD) : S4x1024x3.Idx → F .f32 := V d (Proc.devRef .tc main_arg1)
abbrev arrP (d : Dev nD) : S4x4x3x2048.Idx → F .f32 := V d (Proc.devRef .tc main_v1)

/-- The blocks the body reads at a point. -/
abbrev blkQ (d : Dev nD) (t : Fin cfg0.N) : S1x1024x3.Idx → F .f32 :=
  ((cfg0.win 0).blk t).view.read (Elt F) (V d (Proc.devRef .tc (Pipeline.arrRef spec0 0)))
abbrev blkP (d : Dev nD) (t : Fin cfg0.N) : S1x4x3x512.Idx → F .f32 :=
  ((cfg0.win 1).blk t).view.read (Elt F) (V d (Proc.devRef .tc (Pipeline.arrRef spec0 1)))

/-- The region's data: the arrays, and what the body leaves in the staging buffers at a point. -/
def dats (_ : Fin 1) (d : Dev nD) : Pipeline.Dat τ (Elt F) (HIx 1) ℕ UU ℕ cfg0 d where
  A w := V d (Proc.devRef .tc (Pipeline.arrRef spec0 w))
  after w t := match w with
    | ⟨0, _⟩ => blkQ V d t
    | ⟨1, _⟩ => blkP V d t
    | ⟨2, _⟩ => maskBlk (blkQ V d t) (blkP V d t)
  Φ _ := iprop(emp)
  q _ := fullShare
  owed _ := (K (F := F)).Otc d 0
  recorded _ := {x | (K (F := F)).lev (d.tc, x.1) x.2 ≤ 0}

/-- The queries at a grid point are those of the array at the start. -/
theorem before0 (d : Dev nD) (t : Fin cfg0.N) (e) : (dats V 0 d).before 0 t e = blkQ V d t :=
  ((dats V 0 d).before_in_eq_fetched 0 rfl (fun _ => rfl) (fun _ _ _ => rfl) (fun _ => rfl) t e).trans rfl

/-- So are the points. -/
theorem before1 (d : Dev nD) (t : Fin cfg0.N) (e) : (dats V 0 d).before 1 t e = blkP V d t :=
  ((dats V 0 d).before_in_eq_fetched 1 rfl (fun _ => rfl) (fun _ _ _ => rfl) (fun _ => rfl) t e).trans rfl

/-- The body at every point: the two fetched blocks stay, and the third is left at the mask words. -/
theorem body_obligation (d : Dev nD) : Pipeline.BodyObligation (dats V 0 d) (defs₀ (F := F)) 𝒱₀ (none : HIx 1) Set.univ := fun t => by
  rw [bigSep_W0, bigSep_W0]
  show iprop((dats V 0 d).Φ t.castSucc ∗ (dats V 0 d).owesAt none t.castSucc
      ∗ (∃ e, owns d.tc ((cfg0.win 0).stage (cfg0.slots t 0)) fullShare ((dats V 0 d).before 0 t e))
      ∗ (∃ e, owns d.tc ((cfg0.win 1).stage (cfg0.slots t 1)) fullShare ((dats V 0 d).before 1 t e))
      ∗ (∃ e, owns d.tc ((cfg0.win 2).stage (cfg0.slots t 2)) fullShare ((dats V 0 d).before 2 t e)))
    ⊢ wp frame (wpE (defs₀ (F := F)) 𝒱₀ (d.tc : Thread nD τ) none) Set.univ (bodyAt0 t) fun _ => iprop((dats V 0 d).Φ t.castSucc ∗ (dats V 0 d).owesAt none t.castSucc
      ∗ owns d.tc ((cfg0.win 0).stage (cfg0.slots t 0)) fullShare (blkQ V d t)
      ∗ owns d.tc ((cfg0.win 1).stage (cfg0.slots t 1)) fullShare (blkP V d t)
      ∗ owns d.tc ((cfg0.win 2).stage (cfg0.slots t 2)) fullShare (maskBlk (blkQ V d t) (blkP V d t)))
  simp only [before0, before1]
  unfold owns
  iintro ⟨HΦ, HO, ⟨%e0, %f0, %h0, H0⟩, ⟨%e1, %f1, %h1, H1⟩, ⟨%e2, %f2, %h2, H2⟩⟩
  rw [← h0, ← h1]
  have key : iprop((((win0_0.stage (cfg0.slots t 0)).view.loc (d.tc : Thread nD τ) ↦[(win0_0.stage (cfg0.slots t 0)).view.set]{fullShare} f0)
        ∗ ((win0_1.stage (cfg0.slots t 1)).view.loc (d.tc : Thread nD τ) ↦[(win0_1.stage (cfg0.slots t 1)).view.set]{fullShare} f1)
        ∗ ((win0_2.stage (cfg0.slots t 2)).view.loc (d.tc : Thread nD τ) ↦[(win0_2.stage (cfg0.slots t 2)).view.set]{fullShare} f2))
      ∗ ((dats V 0 d).Φ t.castSucc ∗ (dats V 0 d).owesAt none t.castSucc) : sProp 𝕄) ⊢ _ :=
    (sep_mono (mask_run d (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2)) f0 f1 f2) .rfl).trans (wp_frame_r _ _ _)
  iapply (key.trans (wp_mono _ _ _ fun _ => by
    iintro ⟨⟨H0, H1, %f, %hf, H2⟩, HΦ, HO⟩
    isplitl [HΦ]; · iexact HΦ
    isplitl [HO]; · iexact HO
    isplitl [H0]; · iexists _; isplitr; swap; (· iexact H0); ipureintro; rfl
    isplitl [H1]; · iexists _; isplitr; swap; (· iexact H1); ipureintro; rfl
    iexists _; isplitr; swap; (· iexact H2); ipureintro; exact hf))
  isplitl [H0 H1 H2]
  · isplitl [H0]; · iexact H0
    isplitl [H1]; · iexact H1
    iexact H2
  isplitl [HΦ]; · iexact HΦ
  iexact HO

/-! ### The array the call leaves -/

/-- Which block of the queries a grid point reads: its batch's. -/
theorem trans0 : ∀ t : Fin grid0.N, cc0_transform_0 (grid0.coords t) = ![t.val / 4, 0, 0] := by decide +kernel

/-- Which block of the points: its batch's, and its quarter of them. -/
theorem trans1 : ∀ t : Fin grid0.N, cc0_transform_1 (grid0.coords t) = ![t.val / 4, 0, 0, t.val % 4] := by decide +kernel

/-- Where the queries' block lies in its array. -/
theorem emb0 (t : Fin cfg0.N) (y : S1x1024x3.Idx) (a : Fin 3) :
    ((((cfg0.win 0).blk t).view.emb y) a).val = ![t.val / 4, 0, 0] a * S1x1024x3.size a + (y a).val := by
  rw [← trans0 t]
  exact ValueKit.view_emb_slice_whole_unit_val main_arg1 _ S1x1024x3.size _ y a

/-- Where the points' block lies in its array. -/
theorem emb1 (t : Fin cfg0.N) (y : S1x4x3x512.Idx) (a : Fin 4) :
    ((((cfg0.win 1).blk t).view.emb y) a).val = ![t.val / 4, 0, 0, t.val % 4] a * S1x4x3x512.size a + (y a).val := by
  rw [← trans1 t]
  exact ValueKit.view_emb_slice_whole_unit_val main_v1 _ S1x4x3x512.size _ y a

/-- Which block of the words a grid point writes: its own. -/
theorem trans2 : ∀ t : Fin grid0.N, cc0_transform_2 (grid0.coords t) = ![t.val / 4, 0, t.val % 4] := by decide +kernel

/-- Where the words' block lies in its array. -/
theorem emb2 (t : Fin cfg0.N) (y : S1x1024x512.Idx) (a : Fin 3) :
    ((((cfg0.win 2).blk t).view.emb y) a).val = ![t.val / 4, 0, t.val % 4] a * S1x1024x512.size a + (y a).val := by
  rw [← trans2 t]
  exact ValueKit.view_emb_slice_whole_unit_val main_v2 _ S1x1024x512.size _ y a

/-- Each word is written at some grid point. -/
theorem covers2 : (cfg0.win 2).Covers := by decide +kernel

/-- After the last grid point the array of words is complete. -/
theorem arr2 (d : Dev nD) : (dats V 0 d).arrAt 2 cfg0.N = maskArr (arrQ V d) (arrP V d) := by
  refine (dats V 0 d).arrAt_eq_of_covers 2 _ covers2 (fun t _ y => ?_)
  have hy0 : (y 0).val < 1 := (y 0).isLt
  have hy2 : (y 2).val < 512 := (y 2).isLt
  have ht : t.val < 16 := Nat.lt_of_lt_of_eq t.isLt N_0
  have e0 : ((((cfg0.win 2).blk t).view.emb y) 0).val = t.val / 4 * 1 + (y 0).val := emb2 t y 0
  have e1 : ((((cfg0.win 2).blk t).view.emb y) 1).val = 0 * 1024 + (y 1).val := emb2 t y 1
  have e2 : ((((cfg0.win 2).blk t).view.emb y) 2).val = t.val % 4 * 512 + (y 2).val := emb2 t y 2
  have k0 : blkQ V d t = fun x => arrQ V d (fun | 0 => (((cfg0.win 2).blk t).view.emb y) 0 | 1 => x 1 | 2 => x 2) := by
    funext x
    have hx0 : (x 0).val < 1 := (x 0).isLt
    refine congrArg (arrQ V d) (funext fun a => Fin.ext ?_)
    refine (emb0 t x a).trans ?_
    match a with
    | 0 => exact (show t.val / 4 * 1 + (x 0).val = ((((cfg0.win 2).blk t).view.emb y) 0).val by rw [e0]; omega)
    | 1 => exact (show 0 * 1024 + (x 1).val = (x 1).val by omega)
    | 2 => exact (show 0 * 3 + (x 2).val = (x 2).val by omega)
  have k1 : blkP V d t = fun x => arrP V d (fun
      | 0 => (((cfg0.win 2).blk t).view.emb y) 0 | 1 => x 1 | 2 => x 2
      | 3 => ⟨(512 * (((((cfg0.win 2).blk t).view.emb y) 2).val / 512) + (x 3).val) % 2048, Nat.mod_lt _ (by decide)⟩) := by
    funext x
    have hx0 : (x 0).val < 1 := (x 0).isLt
    have hx3 : (x 3).val < 512 := (x 3).isLt
    refine congrArg (arrP V d) (funext fun a => Fin.ext ?_)
    refine (emb1 t x a).trans ?_
    match a with
    | 0 => exact (show t.val / 4 * 1 + (x 0).val = ((((cfg0.win 2).blk t).view.emb y) 0).val by rw [e0]; omega)
    | 1 => exact (show 0 * 4 + (x 1).val = (x 1).val by omega)
    | 2 => exact (show 0 * 3 + (x 2).val = (x 2).val by omega)
    | 3 => exact (show t.val % 4 * 512 + (x 3).val = (512 * (((((cfg0.win 2).blk t).view.emb y) 2).val / 512) + (x 3).val) % 2048 by rw [e2]; omega)
  show maskBlk (blkQ V d t) (blkP V d t) ((cfg0.win 2).xinj (cfg0.grid.coords t) y) = _
  unfold maskArr
  rw [← k0, ← k1]
  refine congrArg _ (funext fun a => Fin.ext ?_)
  match a with
  | 0 => exact (show (y 0).val = 0 by omega)
  | 1 => exact (show (y 1).val = ((((cfg0.win 2).blk t).view.emb y) 1).val by rw [e1]; omega)
  | 2 => exact (show (y 2).val = ((((cfg0.win 2).blk t).view.emb y) 2).val % 512 by rw [e2]; omega)

/-! ### The call -/

/-- The buffers once the call is over: the array it writes at the words, every other as before. -/
def after (d : Dev nD) : Valuation τ sig (Elt F) :=
  Function.update (V d) (Proc.devRef .tc main_v2) (maskArr (arrQ V d) (arrP V d))

/-- What the call leaves of its three arrays. -/
theorem exit_eq (d : Dev nD) (w : Fin cfg0.W) : (dats V 0 d).arrAt w cfg0.N = after V d (Proc.devRef .tc (Pipeline.arrRef spec0 w)) := by
  match w with
  | ⟨0, _⟩ =>
    refine ((dats V 0 d).arrAt_in 0 rfl _).trans ?_
    exact (Function.update_of_ne (show Proc.devRef .tc main_arg1 ≠ Proc.devRef .tc main_v2 by decide) _ _).symm
  | ⟨1, _⟩ =>
    refine ((dats V 0 d).arrAt_in 1 rfl _).trans ?_
    exact (Function.update_of_ne (show Proc.devRef .tc main_v1 ≠ Proc.devRef .tc main_v2 by decide) _ _).symm
  | ⟨2, _⟩ =>
    show _ = after V d (Proc.devRef .tc main_v2)
    unfold after
    rw [Function.update_self]
    exact arr2 V d

/-- The core owes nothing at the index of a kernel's own waits. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The call is admissible. -/
abbrev adm : (p : Fin 1) → (pcfgs (F := F) p).Adm := fun p => (cfgs p).toPCfg_adm

/-- The windows' arrays, as device buffers. -/
abbrev arrs : Finset (DevRef τ sig) := Pipeline.arrRefs (τ := τ) spec0

set_option backward.isDefEq.respectTransparency.types false in
/-- The call as a region: entered from the three arrays at any contents, left with the third at the words; the thread's
    debts and the bound on its records as they were. -/
def reg : Pipeline.RegionSeg (pcfgs (F := F)) adm (dats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (fun g => Otc_none c 0 g)
  pre c := iprop(StableHlo.held (c.tc : Thread nD τ) arrs (V c) ∗ ∃ W, ⌜(K (F := F)).WBelow (c.tc) W 0⌝ ∗ owes (c.tc) ((K (F := F)).Otc c 0) W)
  post c := iprop(StableHlo.held (c.tc : Thread nD τ) arrs (after V c) ∗ ∃ W, ⌜(K (F := F)).WBelow (c.tc) W 0⌝ ∗ owes (c.tc) ((K (F := F)).Otc c 0) W)
  X _ := iprop(emp)
  Y _ := iprop(emp)
  Z _ := iprop(emp)
  hentry c := by
    rw [Pipeline.ownSems0_none, Pipeline.prefHeld_of_none _ rfl,
      ← Pipeline.arrays_held (pcfgs (F := F)) adm (dats V) 0 launch0.toP c (fun w => (dats V 0 c).share_full (fun _ => rfl) w) ((dats V 0 c).arrAt · 0) (V c) (fun _ => rfl)]
    iintro ⟨⟨Ha, %W, %hW, HO⟩, -, -⟩
    imodintro
    isplitl [Ha]; · iexact Ha
    isplitr; · iempintro
    isplitl [HO]
    · unfold Pipeline.Dat.owesAt Pipeline.owesWithin
      iexists W; isplitr; · ipureintro; exact fun x hx => Or.inl (hW x hx)
      iexact HO
    isplitr <;> iempintro
  hin c := by
    show _ ⊢ iprop(emp)
    rw [scopedRest0_eq]
    iintro -
    iempintro
  hout c := by
    show iprop(emp) ⊢ _
    rw [scopedRest0_eq, Pipeline.ownSems0_none]
    iintro -
    isplitr; · iempintro
    isplitr <;> iempintro
  hexit c := by
    rw [← Pipeline.arrays_held (pcfgs (F := F)) adm (dats V) 0 launch0.toP c (fun w => (dats V 0 c).share_full (fun _ => rfl) w) ((dats V 0 c).arrAt · cfg0.N) (after V c) (exit_eq V c)]
    iintro ⟨Ha, HO, -, -⟩
    imodintro
    isplitl [Ha]; · iexact Ha
    unfold Pipeline.Dat.owesAt Pipeline.owesWithin
    icases HO with ⟨%W, %hW, HO⟩; iexists W; isplitr
    · ipureintro
      intro x hx
      rcases hW hx with h | h
      · exact h
      · obtain ⟨_, _, rfl⟩ := h
        exact le_rfl
    iexact HO

end Region
end Cert.Proof.Grp
-- ==== Proof.Own.Main.lean ====
/-
  @main on the TensorCore: its host operations, the mask call, the grouping call; and the run of the whole program.
-/
module

public import proofs.«01_k».proof.Proof.Own.Pay
public import proofs.«01_k».proof.Proof.Own.Mask

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The two rounds in the resource algebra -/

/-- The handshakes' rounds. -/
abbrev EH : Emb UH 𝕄 := embL
/-- The staging rounds of the TensorCore call. -/
def EP : Emb UR 𝕄 := (Emb.inl : Emb UR (UR × Counters)).trans embR
instance EP_landsIn : (EP (F := F)).LandsIn (upEmb : UEmb _ 𝕄) := by unfold EP; infer_instance

omit [FloatOps F] in
/-- What the staging starts from on device `d`: its cells, and the tokens of its rounds. -/
abbrev GG (d : Dev nD) : sProp 𝕄 := iprop(Pipeline.cellsGhost (Pipeline.pin (pcfgs (F := F)) adm) EP 0 d ∗ Pipeline.toksInit (Pipeline.pin (pcfgs (F := F)) adm) EP 0 d)

/-- The launch's ghost state: the handshakes' rounds, the staging's, the unit of the counters. -/
def u₀ : UU := (initOf (K (F := F)).hsCells (K (F := F)).hsToks, (initOf (Pipeline.cells (nD := nD) (τ := τ) cfgs cellOf_inj) (Pipeline.launchToks (nD := nD) (τ := τ) cfgs cellOf_inj), 1))

omit [FloatOps F] in
/-- A product of empty assertions is empty. -/
theorem emp_all {I : Type} (s : Finset I) : (bigSep s fun _ => iprop(emp)) = (iprop(emp) : sProp 𝕄) := bigSep_emp_const s

/-- The launch element gives each handshake its share. -/
theorem hu₀ (V : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (P V).x q thr) := by
  unfold u₀
  iintro Hu
  ihave H := (ownU_pair (initOf (K (F := F)).hsCells (K (F := F)).hsToks) ((initOf (Pipeline.cells (nD := nD) (τ := τ) cfgs cellOf_inj) (Pipeline.launchToks (nD := nD) (τ := τ) cfgs cellOf_inj), 1) : UR × Counters)) $$ Hu
  icases H with ⟨HH, HR⟩
  ihave H := (show (BI.own (embR ((initOf (Pipeline.cells (nD := nD) (τ := τ) cfgs cellOf_inj) (Pipeline.launchToks (nD := nD) (τ := τ) cfgs cellOf_inj), 1) : UR × Counters)) : sProp 𝕄)
      ⊢ iprop(BI.own (EP (initOf (Pipeline.cells (nD := nD) (τ := τ) cfgs cellOf_inj) (Pipeline.launchToks (nD := nD) (τ := τ) cfgs cellOf_inj))) ∗ BI.own (((Emb.inr : Emb Counters (UR × Counters)).trans embR) 1)) from
    by unfold EP; exact own_pair_emb (embR : Emb (UR × Counters) 𝕄) _ (1 : Counters)) $$ HR
  icases H with ⟨HR, -⟩
  imod ((Pipeline.fund_ghost cfgs (EP (F := F)) cellOf_inj)) $$ HR with ⟨HC, HT⟩
  imodintro
  isplitl [HH]; · iexact HH
  isplitl [HC HT]
  · rw [bigSep_sep' Finset.univ (fun d : Dev nD => Pipeline.cellsGhost (Pipeline.pin (pcfgs (F := F)) adm) EP 0 d)]
    isplitl [HC]
    · iapply (show (bigSep Finset.univ fun c : Dev nD => bigSep Finset.univ fun p : Fin 1 => Pipeline.cellsGhost cfgs (EP (F := F)) p c)
        ⊢ bigSep Finset.univ fun d : Dev nD => Pipeline.cellsGhost (Pipeline.pin (pcfgs (F := F)) adm) EP 0 d from
          Entails.of_eq (bigSep_congr fun _ _ => bigSep_univ_of_subsingleton (0 : Fin 1)))
      iexact HC
    · iapply (show (bigSep Finset.univ fun c : Dev nD => bigSep Finset.univ fun p : Fin 1 => Pipeline.toksInit cfgs (EP (F := F)) p c)
        ⊢ bigSep Finset.univ fun d : Dev nD => Pipeline.toksInit (Pipeline.pin (pcfgs (F := F)) adm) EP 0 d from
          Entails.of_eq (bigSep_congr fun _ _ => bigSep_univ_of_subsingleton (0 : Fin 1)))
      iexact HT
  rw [show (bigSep Finset.univ fun thr : Thread nD τ => bigSep Finset.univ fun q : Fin 1 => (P (F := F) V).x q thr) = bigSep Finset.univ fun _ => iprop(emp) from
    bigSep_congr fun _ _ => bigSep_univ_of_subsingleton (0 : Fin 1), emp_all]
  iempintro

/-! ## The buffers along @main -/

/-- The two operations before the mask call. -/
abbrev opsA : List (HloOp τ sig (Elt F)) :=
  [ StableHlo.reshape main_arg0 main_v0 (rfl : (.f32 : EltTy) = .f32) shapeCasts_S4x8192x3_S4x2048x4x3,
    StableHlo.unary main_v0 main_v1 ((transpose S4x4x3x2048 [0, 2, 3, 1] · transposes_S4x2048x4x3_S4x4x3x2048_0_2_3_1) : (⟨S4x2048x4x3, .f32⟩ : BufTy).Contents (Elt F) → (⟨S4x4x3x2048, .f32⟩ : BufTy).Contents (Elt F)) ]
/-- The four between the two calls. -/
abbrev opsB : List (HloOp τ sig (Elt F)) :=
  [ StableHlo.reshape main_v2 main_v3 (rfl : (.i32 : EltTy) = .i32) shapeCasts_S4x1024x2048_S4096x16x128,
    StableHlo.unary main_arg0 main_v4 ((transpose S4x3x8192 [0, 2, 1] · transposes_S4x8192x3_S4x3x8192_0_2_1) : (⟨S4x8192x3, .f32⟩ : BufTy).Contents (Elt F) → (⟨S4x3x8192, .f32⟩ : BufTy).Contents (Elt F)),
    StableHlo.reshape main_v4 main_v5 (rfl : (.f32 : EltTy) = .f32) shapeCasts_S4x3x8192_S12x8192,
    StableHlo.reshape main_arg1 main_v6 (rfl : (.f32 : EltTy) = .f32) shapeCasts_S4x1024x3_S12288 ]
/-- The one after the second. -/
abbrev opsC : List (HloOp τ sig (Elt F)) :=
  [ StableHlo.reshape main_v7 main_v8 (rfl : (.f32 : EltTy) = .f32) shapeCasts_S12288x32_S4x3x1024x32 ]

variable (m : (ℓ : Loc nD τ sig) → Buf (Elt F) ℓ) (ρ : Dev nD → PrngReg)

/-- The buffers at the mask call, -/
def V₁ (d : Dev nD) : Valuation τ sig (Elt F) := StableHlo.after opsA fun b => m (d, b)
/-- at the grouping call, -/
def V₃ (d : Dev nD) : Valuation τ sig (Elt F) := StableHlo.after opsB (after (V₁ m) d)
/-- after it, -/
def V₄ (d : Dev nD) : Valuation τ sig (Elt F) := Function.update (V₃ m d) (Proc.devRef .tc main_v7) (og (V₃ m) d)
/-- and at the end. -/
def V₅ (d : Dev nD) : Valuation τ sig (Elt F) := StableHlo.after opsC (V₄ m d)

/-- The arrays of the grouping call are among those @main holds. -/
theorem arrs_sub : arrs ⊆ Pipeline.ucRefs τ sig := Pipeline.arrRefs_sub_ucRefs _ (by decide)

/-- The mask call leaves every array but its own as it was. -/
theorem held_after (V : Dev nD → Valuation τ sig (Elt F)) (d : Dev nD) :
    (StableHlo.held (SparseCore.T d) (Pipeline.ucRefs τ sig \ arrs) (V d) : sProp 𝕄)
      = StableHlo.held (SparseCore.T d) (Pipeline.ucRefs τ sig \ arrs) (after V d) :=
  StableHlo.held_congr _ fun b hb => by
    unfold after
    rw [Function.update_of_ne]
    rintro rfl
    exact absurd (show Proc.devRef .tc main_v2 ∈ arrs by decide) (Finset.mem_sdiff.mp hb).2

/-- The arrays of the grouping call. -/
abbrev arr4 : Finset (DevRef τ sig) := {Proc.devRef .tc main_v5, Proc.devRef .tc main_v6, Proc.devRef .tc main_v3, Proc.devRef .tc main_v7}
/-- Its four arrays are among those @main holds. -/
theorem arr4_sub : arr4 ⊆ Pipeline.ucRefs τ sig := by decide

/-- The four arrays held, one by one. -/
theorem held4 (d : Dev nD) (W : Valuation τ sig (Elt F)) :
    (StableHlo.held (SparseCore.T d) arr4 W : sProp 𝕄)
      = iprop((xLoc d ↦{fullShare} W (Proc.devRef .tc main_v5)) ∗ (qLoc d ↦{fullShare} W (Proc.devRef .tc main_v6))
          ∗ (mLoc d ↦{fullShare} W (Proc.devRef .tc main_v3)) ∗ oLoc d ↦{fullShare} W (Proc.devRef .tc main_v7)) := by
  unfold StableHlo.held
  rw [SparseCore.bigSep_insert' (by decide), SparseCore.bigSep_insert' (by decide), SparseCore.bigSep_insert' (by decide), bigSep_singleton]

/-- The held arrays are the four and the rest. -/
theorem held_rest4 (d : Dev nD) :
    (StableHlo.held (SparseCore.T d) (Pipeline.ucRefs τ sig \ arr4) (V₃ m d) : sProp 𝕄)
      = StableHlo.held (SparseCore.T d) (Pipeline.ucRefs τ sig \ arr4) (V₄ m d) :=
  StableHlo.held_congr _ fun b hb => by
    unfold V₄
    rw [Function.update_of_ne]
    rintro rfl
    exact absurd (show Proc.devRef .tc main_v7 ∈ arr4 by decide) (Finset.mem_sdiff.mp hb).2

/-- What @main ends with. -/
abbrev FIN (d : Dev nD) : sProp 𝕄 := StableHlo.held (SparseCore.T d) (Pipeline.ucRefs τ sig) (V₅ m d)

/-! ## @main on the TensorCore -/

variable [∀ e, Nonempty (Elt F e)]

set_option backward.isDefEq.respectTransparency.types false in
/-- The mask call inside @main: the buffers at `V d` become `after V d`. -/
theorem wp_mask (V : Dev nD → Valuation τ sig (Elt F)) (d : Dev nD) (Φ : PUnit → sProp 𝕄) :
    iprop(iprop((boundary (SparseCore.T d) ∗ (StableHlo.held (SparseCore.T d) (Pipeline.ucRefs τ sig) (after V d)
              ∗ ∃ W, ⌜(K (F := F)).WBelow (SparseCore.T d) W 0⌝ ∗ owes (SparseCore.T d) ((K (F := F)).Otc d 0) W)) -∗ Φ ⟨⟩)
        ∗ boundary (SparseCore.T d) ∗ (StableHlo.held (SparseCore.T d) (Pipeline.ucRefs τ sig) (V d)
              ∗ ∃ W, ⌜(K (F := F)).WBelow (SparseCore.T d) W 0⌝ ∗ owes (SparseCore.T d) ((K (F := F)).Otc d 0) W)
        ∗ levAts (K (F := F)).L (K (F := F)).lev ∗ GG d)
      ⊢ wp frame (wpE ((K (F := F)).defs (D (F := F))) 𝒱 (SparseCore.T d) none) Set.univ
          (Prog.lift (.customCall (SparseCore.inner (Pipeline.entry 0)) ())) Φ := by
  have L := fun Φ => (K (F := F)).wp_liftProg (D (F := F)) 𝒱 (SparseCore.T d) (Name := ℕ) (U := UU) (N := 1) Set.univ none
    (Prog.op (.customCall (Pipeline.entry 0) ()) (fun x => .ret x) : Prog (TpuEff nD τ sig (Elt F) (ΛP (F := F)) .tc) PUnit) Φ
  refine BIBase.Entails.trans ?_ (L Φ)
  have hi : Function.Injective (Pipeline.cellOf (nD := nD) (τ := τ) (Pipeline.pin (pcfgs (F := F)) adm)) := cellOf_inj
  have H := fun bd hv => Pipeline.RegionSeg.wp (pcfgs (F := F)) adm (dats V) (none : HIx 1) hi (EP (F := F)) defs₀ 𝒱₀ (K (F := F)).L (K (F := F)).lev (reg V) d bd hv (fun x => .ret x) Φ
  refine BIBase.Entails.trans ?_ (H none (fun _ h => nomatch h))
  rw [StableHlo.held_sub_split _ arrs_sub (V d), StableHlo.held_sub_split _ arrs_sub (after V d), held_after V d]
  iintro ⟨Hk, Hb, ⟨⟨Ha, Hr⟩, HO⟩, Hl, Hc, Ht⟩
  isplitl [Hk Hr]
  · iintro ⟨Hb, Hp⟩
    ihave Hp := (Entails.of_eq (show (reg V).post d = iprop(StableHlo.held (d.tc : Thread nD τ) arrs (after V d)
      ∗ ∃ W, ⌜(K (F := F)).WBelow (d.tc) W 0⌝ ∗ owes (d.tc) ((K (F := F)).Otc d 0) W) from rfl)) $$ Hp
    icases Hp with ⟨Ha, HO⟩
    rw [wp_ret]
    imodintro
    iapply Hk
    isplitl [Hb]; · iexact Hb
    isplitr [HO]
    · isplitl [Ha]; · iexact Ha
      iexact Hr
    · iexact HO
  isplitl [Hb]; · iexact Hb
  isplitl [Ha HO]
  · iapply (Entails.of_eq (show iprop(StableHlo.held (d.tc : Thread nD τ) arrs (V d)
      ∗ ∃ W, ⌜(K (F := F)).WBelow (d.tc) W 0⌝ ∗ owes (d.tc) ((K (F := F)).Otc d 0) W) = (reg V).pre d from rfl))
    isplitl [Ha]; · iexact Ha
    iexact HO
  isplitl [Hl]; · iexact Hl
  isplitl [Hc]; · iexact Hc
  iexact Ht

/-- @main, its host operations in lines around the two calls. -/
theorem main_eq (d : Dev nD) :
    main (F := F) d = (StableHlo.seq opsA >>= fun _ => Prog.lift (.customCall (SparseCore.inner (Pipeline.entry 0)) ()) >>= fun _ =>
      StableHlo.seq opsB >>= fun _ => (K (F := F)).run d 0 >>= fun _ => StableHlo.seq opsC >>= fun _ => pure ⟨⟩) := rfl

/-- A list of operations touches only arrays that @main holds. -/
theorem sub_uc (ops : List (HloOp τ sig (Elt F))) (h : ∀ op ∈ ops, op.bufs ⊆ StableHlo.tcRefs τ sig) : ∀ op ∈ ops, op.bufs ⊆ Pipeline.ucRefs τ sig :=
  fun op ho => Pipeline.sub_ucRefs op (h op ho)

/-- The handshakes' state before the first call is the thread's debts with the rest. -/
theorem tcSt_zero (d : Dev nD) : ∃ R : sProp 𝕄, (K (F := F)).tcSt EH d 0
    = iprop((∃ W, ⌜(K (F := F)).WBelow (SparseCore.T d) W 0⌝ ∗ owes (SparseCore.T d) ((K (F := F)).Otc d 0) W) ∗ R) := ⟨_, rfl⟩

/-- The operations before the mask call touch arrays of the TensorCore only. -/
theorem opsA_sub : ∀ op ∈ (opsA : List (HloOp τ sig (Elt F))), op.bufs ⊆ StableHlo.tcRefs τ sig :=
  List.forall_iff_forall_mem.mp ⟨StableHlo.reshape_bufs_sub .., StableHlo.unary_bufs_sub ..⟩
/-- So do those between the two calls. -/
theorem opsB_sub : ∀ op ∈ (opsB : List (HloOp τ sig (Elt F))), op.bufs ⊆ StableHlo.tcRefs τ sig :=
  List.forall_iff_forall_mem.mp ⟨StableHlo.reshape_bufs_sub .., StableHlo.unary_bufs_sub .., StableHlo.reshape_bufs_sub .., StableHlo.reshape_bufs_sub ..⟩
/-- So does the last. -/
theorem opsC_sub : ∀ op ∈ (opsC : List (HloOp τ sig (Elt F))), op.bufs ⊆ StableHlo.tcRefs τ sig :=
  List.forall_iff_forall_mem.mp (StableHlo.reshape_bufs_sub ..)
/-- The operations before the mask call name no fresh array. -/
theorem opsA_fresh : ∀ op ∈ (opsA : List (HloOp τ sig (Elt F))), op.fresh = ∅ := List.forall_iff_forall_mem.mp ⟨rfl, rfl⟩
/-- Nor do those between the two calls. -/
theorem opsB_fresh : ∀ op ∈ (opsB : List (HloOp τ sig (Elt F))), op.fresh = ∅ := List.forall_iff_forall_mem.mp ⟨rfl, rfl, rfl, rfl⟩
/-- Nor does the last. -/
theorem opsC_fresh : ∀ op ∈ (opsC : List (HloOp τ sig (Elt F))), op.fresh = ∅ := List.forall_iff_forall_mem.mp (show _ = _ from rfl)

set_option backward.isDefEq.respectTransparency.types false in
/-- The grouping call inside @main: the buffers at `V₃` become `V₄`. -/
theorem wp_group (κ : GSem nD τ sig → ℕ) (d : Dev nD) (Φ : PUnit → sProp 𝕄) :
    iprop((K (F := F)).ctx EH (P (V₃ m)) κ ∗ (K (F := F)).tcSt EH d 0 ∗ StableHlo.held (SparseCore.T d) (Pipeline.ucRefs τ sig) (V₃ m d)
        ∗ iprop(((K (F := F)).tcSt EH d 1 ∗ StableHlo.held (SparseCore.T d) (Pipeline.ucRefs τ sig) (V₄ m d)) -∗ Φ ⟨⟩))
      ⊢ wp frame (wpE ((K (F := F)).defs (D (F := F))) 𝒱 (SparseCore.T d) none) Set.univ ((K (F := F)).run d 0) Φ := by
  rw [StableHlo.held_sub_split _ arr4_sub (V₃ m d), StableHlo.held_sub_split _ arr4_sub (V₄ m d), held_rest4, held4, held4]
  iintro ⟨#Hctx, Hst, ⟨⟨Hx, Hq, Hm, Ho⟩, Hr⟩, Hk⟩
  iapply ((K (F := F)).wp_run (D (F := F)) 𝒱 (EH := EH) (P := P (V₃ m)) κ d 0) $$ [Hst Hx Hq Hm Ho Hr Hk]
  isplitr; · iexact Hctx
  isplitl [Hst]; · iexact Hst
  isplitl [Hx Hq Hm Ho]
  · rw [st0_eq]
    isplitr [Ho]
    · isplitl [Hx]; · iexact Hx
      isplitl [Hq]; · iexact Hq
      iexact Hm
    iexact Ho
  iintro ⟨Hst, Hdn⟩
  ihave Hdn' := (Entails.of_eq (dn0_eq (V₃ m) d)) $$ Hdn
  icases Hdn' with ⟨⟨Hx, Hq, Hm⟩, Ho⟩
  iapply Hk
  isplitl [Hst]; · iexact Hst
  isplitr [Hr]
  · have e5 : V₄ m d (Proc.devRef .tc main_v5) = V₃ m d (Proc.devRef .tc main_v5) :=
      Function.update_of_ne (show Proc.devRef .tc main_v5 ≠ Proc.devRef .tc main_v7 by decide) _ _
    have e6 : V₄ m d (Proc.devRef .tc main_v6) = V₃ m d (Proc.devRef .tc main_v6) :=
      Function.update_of_ne (show Proc.devRef .tc main_v6 ≠ Proc.devRef .tc main_v7 by decide) _ _
    have e3 : V₄ m d (Proc.devRef .tc main_v3) = V₃ m d (Proc.devRef .tc main_v3) :=
      Function.update_of_ne (show Proc.devRef .tc main_v3 ≠ Proc.devRef .tc main_v7 by decide) _ _
    have e7 : V₄ m d (Proc.devRef .tc main_v7) = og (V₃ m) d := by unfold V₄; rw [Function.update_self]
    rw [e5, e6, e3, e7]
    isplitl [Hx]; · iexact Hx
    isplitl [Hq]; · iexact Hq
    isplitl [Hm]; · iexact Hm
    iexact Ho
  iexact Hr

set_option backward.isDefEq.respectTransparency.types false in
/-- @main on device `d`'s TensorCore, from every buffer at its initial contents to every buffer at `V₅`. -/
theorem hmain (κ : GSem nD τ sig → ℕ) (d : Dev nD) :
    iprop((K (F := F)).ctx EH (P (V₃ m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  unfold SparseCore.Cfg.tcRes SparseCore.Cfg.tcEnd
  rw [main_eq, show (unscopedBufs d (fun b => m ((SparseCore.T d).loc b)) : sProp 𝕄) = StableHlo.held d.tc (Pipeline.ucRefs τ sig) (fun b => m (d, b)) from
    Pipeline.unscopedBufs_held d (fun b => m (d, b))]
  iintro ⟨#Hctx, Hst, ⟨Hb, HV, Hts, -⟩, HG⟩
  iapply (StableHlo.wp_seq 𝒱 none Set.univ d (Pipeline.ucRefs τ sig) _ opsA (sub_uc _ opsA_sub) opsA_fresh (fun b => m (d, b))) $$ [Hb HV]
  · isplitl [Hb] <;> iassumption
  iintro ⟨Hb, HV⟩
  rw [wp_bind]
  ihave Hst := (Entails.of_eq hR) $$ Hst
  icases Hst with ⟨HO, HR⟩
  iapply (wp_mask (V₁ m) d) $$ [Hb HV HO HG HR Hts]
  isplitr [Hb HV HO HG]
  · iintro ⟨Hb, HV, HO⟩
    ihave Hst := (show iprop((∃ W, ⌜(K (F := F)).WBelow (SparseCore.T d) W 0⌝ ∗ owes (SparseCore.T d) ((K (F := F)).Otc d 0) W) ∗ R) ⊢ (K (F := F)).tcSt EH d 0 from
      Entails.of_eq hR.symm) $$ [HO HR]
    · isplitl [HO] <;> iassumption
    iapply (StableHlo.wp_seq 𝒱 none Set.univ d (Pipeline.ucRefs τ sig) _ opsB (sub_uc _ opsB_sub) opsB_fresh (after (V₁ m) d)) $$ [Hb HV]
    · isplitl [Hb] <;> iassumption
    iintro ⟨Hb, HV⟩
    rw [wp_bind]
    iapply (wp_group m κ d) $$ [Hb HV Hst Hts]
    isplitr; · iexact Hctx
    isplitl [Hst]; · iexact Hst
    isplitl [HV]; · iexact HV
    iintro ⟨Hst, HV⟩
    iapply (StableHlo.wp_seq 𝒱 none Set.univ d (Pipeline.ucRefs τ sig) _ opsC (sub_uc _ opsC_sub) opsC_fresh (V₄ m d)) $$ [Hb HV]
    · isplitl [Hb] <;> iassumption
    iintro ⟨Hb, HV⟩
    rw [wp_pure]
    imodintro
    isplitl [Hst]; · iexact Hst
    isplitl [HV]; · iexact HV
    isplitl [Hb] <;> iassumption
  isplitl [Hb]; · iexact Hb
  isplitl [HV HO]
  · isplitl [HV]; · iexact HV
    iexact HO
  isplitr [HG]
  · unfold SparseCore.Cfg.ctx
    icases Hctx with ⟨Hl, -⟩
    iexact Hl
  iexact HG

/-! ## The run -/

/-- What a terminal memory of device `d` says: every buffer of @main's is at `V₅`. -/
def fq (d : Dev nD) (s' : Phys nD τ sig (Elt F)) : Prop := ∀ b ∈ Pipeline.ucRefs τ sig, s'.mem.mem (d, b) = V₅ m d b

/-- At the end the arrays held tell what memory holds. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every buffer of @main's is at `V₅`, every semaphore at zero. -/
def QC : PUnit × MemSt nD τ sig (Elt F) → Prop := fun r => (∀ d : Dev nD, ∀ b ∈ Pipeline.ucRefs τ sig, r.2.mem (d, b) = V₅ m d b) ∧ r.2.sem = fun _ => 0

/-- The whole program, from any memory with its semaphores at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V₃ m)) (A := ∅) facts v₀
    (fun q hq => match q with | 0 => nomatch hq)
    (fun q _ => match q with | 0 => tileObl (V₃ m) facts)
    (fun q _ => match q with | 0 => SparseCore.Cfg.VecSplit.of_plain (vecSplit (V₃ m)))
    m ρ main (fun d => GG d) (FIN m) (u₀ (F := F)) (sep_elim_left.trans (hu₀ (V₃ m))) (hmain m ρ) (fq m) (hfin m) (QC m) (fun _ h hz => ⟨h, hz⟩)

end Cert.Proof.Grp

end
-- ==== Proof.Own.Value.lean ====
/-
  What the program leaves, as a function of its arguments.
-/
module

public import proofs.«01_k».proof.Proof.Own.Main
public import Idealize.ShloMosaic.Lib.Pointwise.Tactic

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ)

/-! ## What @main leaves, of its arguments -/

/-- The two arguments the program reads. -/
abbrev A0 (d : Dev nD) : S4x8192x3.Idx → F .f32 := m ((SparseCore.T d).loc main_arg0)
abbrev A1 (d : Dev nD) : S4x1024x3.Idx → F .f32 := m ((SparseCore.T d).loc main_arg1)

/-- The points end as they began. -/
theorem V₅_arg0 (d : Dev nD) : V₅ m d (Proc.devRef .tc main_arg0) = m ((SparseCore.T d).loc main_arg0) := by
  have e5 : V₅ m d (Proc.devRef .tc main_arg0) = V₄ m d (Proc.devRef .tc main_arg0) := by unfold V₅; after_results_simp
  have e4 : V₄ m d (Proc.devRef .tc main_arg0) = V₃ m d (Proc.devRef .tc main_arg0) :=
    Function.update_of_ne (show Proc.devRef .tc main_arg0 ≠ Proc.devRef .tc main_v7 by decide) _ _
  have e3 : V₃ m d (Proc.devRef .tc main_arg0) = after (V₁ m) d (Proc.devRef .tc main_arg0) := by unfold V₃; after_results_simp
  have e2 : after (V₁ m) d (Proc.devRef .tc main_arg0) = V₁ m d (Proc.devRef .tc main_arg0) :=
    Function.update_of_ne (show Proc.devRef .tc main_arg0 ≠ Proc.devRef .tc main_v2 by decide) _ _
  have e1 : V₁ m d (Proc.devRef .tc main_arg0) = m ((SparseCore.T d).loc main_arg0) := by unfold V₁; after_results_simp
  rw [e5, e4, e3, e2, e1]

/-- The queries end as they began. -/
theorem V₅_arg1 (d : Dev nD) : V₅ m d (Proc.devRef .tc main_arg1) = m ((SparseCore.T d).loc main_arg1) := by
  have e5 : V₅ m d (Proc.devRef .tc main_arg1) = V₄ m d (Proc.devRef .tc main_arg1) := by unfold V₅; after_results_simp
  have e4 : V₄ m d (Proc.devRef .tc main_arg1) = V₃ m d (Proc.devRef .tc main_arg1) :=
    Function.update_of_ne (show Proc.devRef .tc main_arg1 ≠ Proc.devRef .tc main_v7 by decide) _ _
  have e3 : V₃ m d (Proc.devRef .tc main_arg1) = after (V₁ m) d (Proc.devRef .tc main_arg1) := by unfold V₃; after_results_simp
  have e2 : after (V₁ m) d (Proc.devRef .tc main_arg1) = V₁ m d (Proc.devRef .tc main_arg1) :=
    Function.update_of_ne (show Proc.devRef .tc main_arg1 ≠ Proc.devRef .tc main_v2 by decide) _ _
  have e1 : V₁ m d (Proc.devRef .tc main_arg1) = m ((SparseCore.T d).loc main_arg1) := by unfold V₁; after_results_simp
  rw [e5, e4, e3, e2, e1]

/-- The features end as they began. -/
theorem V₅_arg2 (d : Dev nD) : V₅ m d (Proc.devRef .tc main_arg2) = m ((SparseCore.T d).loc main_arg2) := by
  have e5 : V₅ m d (Proc.devRef .tc main_arg2) = V₄ m d (Proc.devRef .tc main_arg2) := by unfold V₅; after_results_simp
  have e4 : V₄ m d (Proc.devRef .tc main_arg2) = V₃ m d (Proc.devRef .tc main_arg2) :=
    Function.update_of_ne (show Proc.devRef .tc main_arg2 ≠ Proc.devRef .tc main_v7 by decide) _ _
  have e3 : V₃ m d (Proc.devRef .tc main_arg2) = after (V₁ m) d (Proc.devRef .tc main_arg2) := by unfold V₃; after_results_simp
  have e2 : after (V₁ m) d (Proc.devRef .tc main_arg2) = V₁ m d (Proc.devRef .tc main_arg2) :=
    Function.update_of_ne (show Proc.devRef .tc main_arg2 ≠ Proc.devRef .tc main_v2 by decide) _ _
  have e1 : V₁ m d (Proc.devRef .tc main_arg2) = m ((SparseCore.T d).loc main_arg2) := by unfold V₁; after_results_simp
  rw [e5, e4, e3, e2, e1]

/-! ## What @main leaves in its result -/

/-- A reshaped array at an index, read at the index of the same row-major position. -/
theorem cast_at {s t : Shape} {α : Type} (f : s.Idx → α) (h : s.ShapeCasts t) (x : t.Idx) (y : s.Idx)
    (e : (s.rowMajor y : ℕ) = (t.rowMajor x : ℕ)) : shapeCast t f h x = f y :=
  congrArg f (Shape.reshapeEquiv_eq_of_rowMajor h e)

/-- The words the mask call leaves, of the program's arguments. -/
def words (d : Dev nD) : S4x1024x2048.Idx → BitVec 32 :=
  maskArr (A1 m d) (transpose S4x4x3x2048 [0, 2, 3, 1] (shapeCast S4x2048x4x3 (A0 m d) shapeCasts_S4x8192x3_S4x2048x4x3) transposes_S4x2048x4x3_S4x4x3x2048_0_2_3_1)

/-- Point `n`'s bit in the words of query `k` of batch `b`. -/
def wbit (d : Dev nD) (b : Fin 4) (k : Fin 1024) (n : ℕ) : Prop :=
  (words m d (ix3 b k ⟨n / 4 % 2048, Nat.mod_lt _ (by decide)⟩)).getLsbD (8 * (n % 4)) = true

instance (d : Dev nD) (b : Fin 4) (k : Fin 1024) : DecidablePred (wbit m d b k) := fun n => by unfold wbit; infer_instance

/-- The result as a reshaping of what the grouping call leaves of the three arrays it reads. -/
theorem V₅_v8 (d : Dev nD) :
    V₅ m d (Proc.devRef .tc main_v8) = shapeCast S4x3x1024x32 (outv
      (shapeCast S12x8192 (transpose S4x3x8192 [0, 2, 1] (A0 m d) transposes_S4x8192x3_S4x3x8192_0_2_1) shapeCasts_S4x3x8192_S12x8192)
      (shapeCast S12288 (A1 m d) shapeCasts_S4x1024x3_S12288)
      (shapeCast S4096x16x128 (words m d) shapeCasts_S4x1024x2048_S4096x16x128)) shapeCasts_S12288x32_S4x3x1024x32 := by
  have a1 : V₁ m d (Proc.devRef .tc main_v1) = transpose S4x4x3x2048 [0, 2, 3, 1] (shapeCast S4x2048x4x3 (A0 m d) shapeCasts_S4x8192x3_S4x2048x4x3) transposes_S4x2048x4x3_S4x4x3x2048_0_2_3_1 := by
    unfold V₁; after_results_simp; rfl
  have a2 : V₁ m d (Proc.devRef .tc main_arg1) = A1 m d := by unfold V₁; after_results_simp
  have a3 : V₁ m d (Proc.devRef .tc main_arg0) = A0 m d := by unfold V₁; after_results_simp
  have y2 : after (V₁ m) d (Proc.devRef .tc main_v2) = words m d := by
    show Function.update _ _ _ _ = _
    rw [Function.update_self]
    show maskArr (V₁ m d (Proc.devRef .tc main_arg1)) (V₁ m d (Proc.devRef .tc main_v1)) = _
    rw [a1, a2]; rfl
  have y0 : after (V₁ m) d (Proc.devRef .tc main_arg0) = A0 m d :=
    (Function.update_of_ne (show Proc.devRef .tc main_arg0 ≠ Proc.devRef .tc main_v2 by decide) _ _).trans a3
  have y1 : after (V₁ m) d (Proc.devRef .tc main_arg1) = A1 m d :=
    (Function.update_of_ne (show Proc.devRef .tc main_arg1 ≠ Proc.devRef .tc main_v2 by decide) _ _).trans a2
  have c6 : V₃ m d (Proc.devRef .tc main_v6) = shapeCast S12288 (A1 m d) shapeCasts_S4x1024x3_S12288 := by
    unfold V₃; after_results_simp; rw [y1]; rfl
  have c5 : V₃ m d (Proc.devRef .tc main_v5) = shapeCast S12x8192 (transpose S4x3x8192 [0, 2, 1] (A0 m d) transposes_S4x8192x3_S4x3x8192_0_2_1) shapeCasts_S4x3x8192_S12x8192 := by
    unfold V₃; after_results_simp; rw [y0]; rfl
  have c3 : V₃ m d (Proc.devRef .tc main_v3) = shapeCast S4096x16x128 (words m d) shapeCasts_S4x1024x2048_S4096x16x128 := by
    unfold V₃; after_results_simp; rw [y2]; rfl
  have e5 : V₅ m d (Proc.devRef .tc main_v8) = shapeCast S4x3x1024x32 (V₄ m d (Proc.devRef .tc main_v7)) shapeCasts_S12288x32_S4x3x1024x32 := by
    unfold V₅; after_results_simp; rfl
  have e4 : V₄ m d (Proc.devRef .tc main_v7) = og (V₃ m) d := Function.update_self _ _ _
  rw [e5, e4]
  show shapeCast S4x3x1024x32 (outv (V₃ m d (Proc.devRef .tc main_v5)) (V₃ m d (Proc.devRef .tc main_v6)) (V₃ m d (Proc.devRef .tc main_v3))) _ = _
  rw [c3, c5, c6]

/-- What the program leaves in coordinate `c` of result `j` of query `k` of batch `b`: the chosen point's coordinate,
relative to the query's. -/
theorem V₅_v8_apply (d : Dev nD) (b : Fin 4) (c : Fin 3) (k : Fin 1024) (j : Fin 32) :
    V₅ m d (Proc.devRef .tc main_v8) (ix4 b c k j)
      = rel (A0 m d (ix3 b ⟨sel (wbit m d b k) j.val, sel_lt _⟩ c)) (A1 m d (ix3 b k c)) := by
  have hb := b.isLt; have hc := c.isLt; have hk := k.isLt; have hj := j.isLt
  rw [V₅_v8, cast_at _ _ _ (ix2 (⟨3072 * b.val + 1024 * c.val + k.val, by omega⟩ : Fin 12288) j)
    (by rw [rowMajor_val2 _ 32 rfl, rowMajor_val4 _ 98304 32768 32 rfl rfl rfl]; simp only [ix2, ix4]; omega)]
  show rel _ _ = _
  have h0 : (3072 * b.val + 1024 * c.val + k.val) / 3072 = b.val := by omega
  have h1 : (3072 * b.val + 1024 * c.val + k.val) / 1024 % 3 = c.val := by omega
  have h2 : (3072 * b.val + 1024 * c.val + k.val) % 1024 = k.val := by omega
  have hw : mbit (shapeCast S4096x16x128 (words m d) shapeCasts_S4x1024x2048_S4096x16x128) (1024 * b.val + k.val) = wbit m d b k := by
    funext n
    unfold mbit wbit
    rw [cast_at _ _ _ (ix3 b k (⟨n / 4 % 2048, Nat.mod_lt _ (by decide)⟩ : Fin 2048))
      (by rw [rowMajor_val3 _ 2097152 2048 rfl rfl, rowMajor_val3 _ 2048 128 rfl rfl]; simp only [ix3, i3]; omega)]
  have hs : sel (mbit (shapeCast S4096x16x128 (words m d) shapeCasts_S4x1024x2048_S4096x16x128) (1024 * b.val + k.val)) j.val
      = sel (wbit m d b k) j.val := by congr!
  have hS := sel_lt (p := wbit m d b k) j.val
  simp only [ix2, h0, h1, h2]
  congr 1
  · rw [hs, cast_at _ _ _ (ix3 b c (⟨sel (wbit m d b k) j.val, sel_lt _⟩ : Fin 8192))
      (by rw [rowMajor_val3 _ 24576 8192 rfl rfl, rowMajor_val2 _ 8192 rfl]; simp only [ix3, iX]; omega)]
    refine congrArg (A0 m d) (funext fun a => Fin.ext ?_)
    match a with
    | 0 => rfl
    | 1 => rfl
    | 2 => rfl
  · exact cast_at _ _ _ (ix3 b k c) (by rw [rowMajor_val3 _ 3072 3 rfl rfl, rowMajor_val1]; simp only [ix3, iQ]; omega)

/-- The run, told of @main's three arguments and its result. -/
theorem run_tc [∀ e, Nonempty (Elt F e)] (ρ : Dev nD → PrngReg) :
    θ_run (Cert.KernelIdeal.defs (F := F)) (Cert.KernelIdeal.threads (F := F)) ⟨m, fun _ => 0, ρ⟩ fun r => (∀ d : Dev nD,
      r.2.mem ((SparseCore.T d).loc main_v8) = V₅ m d (Proc.devRef .tc main_v8)
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)) ∧ r.2.sem = fun _ => 0 :=
  (θ_run Cert.KernelIdeal.defs _ _).mono (fun r h => ⟨fun d =>
    ⟨h.1 d (Proc.devRef .tc main_v8) (by decide),
     (h.1 d (Proc.devRef .tc main_arg0) (by decide)).trans (V₅_arg0 m d),
     (h.1 d (Proc.devRef .tc main_arg1) (by decide)).trans (V₅_arg1 m d),
     (h.1 d (Proc.devRef .tc main_arg2) (by decide)).trans (V₅_arg2 m d)⟩, h.2⟩) (run_main m ρ)

end Cert.Proof.Grp

end
-- ==== Proof.Own.Frames.lean ====
/-
  The frames: what the three programs leave of their arguments and semaphores.
-/
module

public import proofs.«01_k».proof.Proof.Own.Value
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Same

attribute [local instance] Cert.Kernel.Gen.facts

/-- The two printings of the optimised program give each processor the same bodies. -/
theorem defs₀_eq : Cert.Kernel.defs₀ (F := F) = Cert.KernelIdeal.defs₀ (F := F) := by
  funext p l a
  match p, l, a with
  | .tc, 0, (t, s) => rfl
  | .tc, 1, _ => rfl
  | .scVector c s, 1, _ => rfl
  | .scVector c s, 0, _ => rfl
  | .scScalar c, 0, _ => rfl
  | .scScalar c, 1, _ => rfl

/-- The two printings of the optimised program have the same definitions. -/
theorem defs_eq : Cert.Kernel.defs (F := F) = Cert.KernelIdeal.defs (F := F) := by
  unfold Cert.Kernel.defs Cert.KernelIdeal.defs
  rw [defs₀_eq]
  rfl

/-- Every argument of the optimised program ends as it began and every semaphore at zero, its values taken as bit patterns. -/
theorem frame_kernel : Cert.quiescent_Kernel := fun m ρ _ => by
  rw [defs_eq]
  exact (θ_run (Cert.KernelIdeal.defs (F := Bits)) _ _).mono (fun _ h => ⟨fun d => (h.1 d).2, h.2⟩) (run_tc (F := Bits) m ρ)

end Same

/-- The same of the program read over the extended reals. -/
theorem frame_kernelIdeal : @Cert.quiescent_KernelIdeal Cert.KernelIdeal.Gen.facts := fun m ρ _ =>
  (θ_run (Cert.KernelIdeal.defs (F := Ideal)) _ _).mono (fun _ h => ⟨fun d => (h.1 d).2, h.2⟩) (run_tc (F := Ideal) m ρ)

/-- Every argument of the reference ends as it began, and it has no semaphore. -/
theorem frame_reference : @Cert.quiescent_ReferenceIdeal Cert.ReferenceIdeal.Gen.facts := fun m ρ _ =>
  (θ_run Cert.ReferenceIdeal.defs _ _).mono (fun r h => ⟨fun d => (h d).2.2, Idealize.ShloMosaic.sem_eq_zero_of_no_sems (by decide) r.2⟩)
    (Cert.ReferenceIdeal.Value.run (F := Ideal) m ρ)

end Cert.Proof.Grp

end
-- ==== Proof.Own.Rank.lean ====
/-
  Sorting the marked numbers below 8192: what stands at each place, by rank.
-/
module

public import proofs.«01_k».proof.Proof.Own.Compact
public import Idealize.ShloMosaic.Lib.SortFacts

@[expose] public section

noncomputable section

namespace Cert.Proof.Grp

open Idealize.ShloMosaic

section
variable (p : ℕ → Prop) [DecidablePred p]

/-- The number that is sorted in place of `n`: itself where it is marked, 8192 where it isn't. -/
def key (n : Fin 8192) : ℕ := if p n.val then n.val else 8192

/-- The number standing at place `r` once sorted. -/
def place (r : Fin 8192) : Fin 8192 := sortedFrom (fun k k' => decide (key p k < key p k')) r

/-- Sorted, the numbers do not decrease. -/
theorem key_le {i j : Fin 8192} (h : i < j) : key p (place p i) ≤ key p (place p j) := by
  have h := sortedFrom_noInversion (fun k k' => decide (key p k < key p k')) (fun k k' => decide (key p k < key p k'))
    (fun a b h => by simp only [decide_eq_true_eq, decide_eq_false_iff_not] at h ⊢; omega) (fun _ _ h => h)
    (fun a b c h h' => by simp only [decide_eq_false_iff_not] at h h' ⊢; omega) i j h
  simp only [decide_eq_false_iff_not] at h
  exact Nat.le_of_not_lt h

/-- No number stands at two places. -/
theorem place_inj : Function.Injective (place p) := sortedFrom_injective _
/-- Each number stands at some place. -/
theorem place_surj : Function.Surjective (place p) := sortedFrom_surjective _

/-- The numbers at the places before `r`. -/
def before (r : Fin 8192) : Finset ℕ := (Finset.Iio r).image fun i => (place p i).val

/-- Before place `r` stand `r` numbers. -/
theorem card_before (r : Fin 8192) : (before p r).card = r.val := by
  unfold before
  rw [Finset.card_image_of_injective _ (fun i j h => place_inj p (Fin.ext h)), Fin.card_Iio]

/-- At place `r` stands the marked number of rank `r`, or an unmarked one, fewer being marked. -/
theorem place_rank (r : Fin 8192) :
    (p (place p r).val ∧ Nat.count p (place p r).val = r.val) ∨ (¬ p (place p r).val ∧ Nat.count p 8192 ≤ r.val) := by
  by_cases hp : p (place p r).val
  · refine .inl ⟨hp, ?_⟩
    have hk : key p (place p r) = (place p r).val := if_pos hp
    rw [Nat.count_eq_card_filter_range, ← card_before p r]
    refine congrArg Finset.card (Finset.ext fun x => ?_)
    simp only [before, Finset.mem_filter, Finset.mem_range, Finset.mem_image, Finset.mem_Iio]
    constructor
    · rintro ⟨hx, hpx⟩
      obtain ⟨i, hi⟩ := place_surj p ⟨x, hx.trans (place p r).isLt⟩
      have hv : (place p i).val = x := congrArg Fin.val hi
      refine ⟨i, ?_, hv⟩
      by_contra hir
      rcases lt_or_eq_of_le (not_lt.mp hir) with h | h
      · have := key_le p h
        rw [hk, show key p (place p i) = x by unfold key; rw [hv, if_pos hpx]] at this
        omega
      · rw [h, hv] at hx; omega
    · rintro ⟨i, hi, rfl⟩
      have hl := key_le p hi
      have hlt := (place p r).isLt
      rw [hk] at hl
      have hpi : p (place p i).val := by
        by_contra hn
        rw [show key p (place p i) = 8192 from if_neg hn] at hl
        omega
      rw [show key p (place p i) = (place p i).val from if_pos hpi] at hl
      refine ⟨lt_of_le_of_ne hl fun h => ?_, hpi⟩
      exact absurd (place_inj p (Fin.ext h)) (ne_of_lt hi)
  · refine .inr ⟨hp, ?_⟩
    have hk : key p (place p r) = 8192 := if_neg hp
    rw [Nat.count_eq_card_filter_range, ← card_before p r]
    refine Finset.card_le_card fun x hx => ?_
    simp only [before, Finset.mem_filter, Finset.mem_range, Finset.mem_image, Finset.mem_Iio] at hx ⊢
    obtain ⟨i, hi⟩ := place_surj p ⟨x, hx.1⟩
    have hv : (place p i).val = x := congrArg Fin.val hi
    refine ⟨i, ?_, hv⟩
    by_contra hir
    rcases lt_or_eq_of_le (not_lt.mp hir) with h | h
    · have := key_le p h
      rw [hk, show key p (place p i) = x by unfold key; rw [hv, if_pos hx.2]] at this
      have := hx.1
      omega
    · rw [h, hv] at hp; exact hp hx.2

/-- What stands at place `r`, the first number standing in where none of that rank is marked, is the selected point. -/
theorem sel_place (r : Fin 8192) :
    sel p r.val = if key p (place p r) = 8192 then (if key p (place p 0) = 8192 then 0 else key p (place p 0)) else key p (place p r) := by
  have h1 (i : Fin 8192) (h : p (place p i).val) : key p (place p i) = (place p i).val := if_pos h
  have h2 (i : Fin 8192) (h : ¬ p (place p i).val) : key p (place p i) = 8192 := if_neg h
  have h3 (i : Fin 8192) := (place p i).isLt
  rcases place_rank p r with ⟨hp, hc⟩ | ⟨hp, hc⟩
  · rw [h1 r hp, if_neg (by have := h3 r; omega)]
    exact sel_of_rank (h3 r) hp hc
  · rw [h2 r hp, if_pos rfl]
    rcases place_rank p 0 with ⟨hp0, hc0⟩ | ⟨hp0, hc0⟩
    · rw [h1 0 hp0, if_neg (by have := h3 0; omega)]
      exact sel_of_first (h3 0) hp0 hc0 hc
    · rw [h2 0 hp0, if_pos rfl]
      exact sel_of_none (Nat.le_zero.mp hc0)

end

end Cert.Proof.Grp

end
-- ==== Proof.Own.Near.lean ====
/-
  The mask words over the extended reals.
-/
module

public import proofs.«01_k».proof.Proof.Own.Value
public import Idealize.ShloMosaic.Lib.Pointwise
public import Idealize.ShloMosaic.Lib.Tactic.CleanTypes

@[expose] public section

noncomputable section

namespace Cert.Proof.Grp

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The mask words over the extended reals -/

/-- The square of the distance of two points of three coordinates, by the expansion of the square. -/
def dist (q p : Fin 3 → Ideal .f32) : Ideal .f32 :=
  ((q 0 * q 0 + q 1 * q 1 + q 2 * q 2) + (p 0 * p 0 + p 1 * p 1 + p 2 * p 2))
    - Ideal.ofBits .f32 0x40000000#32 * (q 0 * p 0 + q 1 * p 1 + q 2 * p 2)

/-- A point is within the radius of a query. -/
def near (q p : Fin 3 → Ideal .f32) : BitVec 1 := BitVec.ofBool (decide (dist q p ≤ Ideal.ofBits .f32 0x3D23D70A#32))

/-- The four bytes of a word, each holding one bit. -/
def bytes (a b c e : BitVec 1) : BitVec 32 :=
  ((a.setWidth 32 ||| b.setWidth 32 <<< 8) ||| c.setWidth 32 <<< 16) ||| e.setWidth 32 <<< 24

/-- The mask call's words from the block of queries and the four planes of points. -/
theorem pay_read (q : Vec Ideal S1x1024x3 .f32) (p0 p1 p2 p3 : Vec Ideal S1x1x3x512 .f32) (k : Fin 1024) (w : Fin 512) :
    k0_pay1 (F := Ideal) (k0_pay2 q) (k0_pay3 q)
      (k0_pay8 (k0_pay2 q) (k0_pay3 q) (k0_pay4 q p0) (k0_pay5 p1) (k0_pay6 p1) (k0_pay7 p1))
      (k0_pay9 (F := Ideal) (k0_pay2 q) (k0_pay3 q) p2) k0_pay10 p3 (ix3 0 k w)
    = bytes (near (fun c => q (ix3 0 k c)) (fun c => p0 (ix4 0 0 c w))) (near (fun c => q (ix3 0 k c)) (fun c => p1 (ix4 0 0 c w)))
        (near (fun c => q (ix3 0 k c)) (fun c => p2 (ix4 0 0 c w))) (near (fun c => q (ix3 0 k c)) (fun c => p3 (ix4 0 0 c w))) := by
  simp only [k0_pay1, k0_pay2, k0_pay3, k0_pay4, k0_pay5, k0_pay6, k0_pay7, k0_pay8, k0_pay9, k0_pay10]
  clean_types
  pointwise
  simp only [Fin.sum_univ_three]
  rfl

/-- Bit 0 of a byte is the bit put there. -/
theorem bytes_bit (x : Fin 4 → BitVec 1) (i : Fin 4) : (bytes (x 0) (x 1) (x 2) (x 3)).getLsbD (8 * i.val) = true ↔ x i = 1#1 := by
  generalize h0 : x 0 = a; generalize h1 : x 1 = b; generalize h2 : x 2 = c; generalize h3 : x 3 = e
  have h : x i = (match i with | 0 => a | 1 => b | 2 => c | 3 => e) := by
    match i with
    | 0 => exact h0
    | 1 => exact h1
    | 2 => exact h2
    | 3 => exact h3
  rw [h]
  clear h h0 h1 h2 h3
  revert i a b c e
  decide +kernel

/-- The mask call's word for word `u` of query `k` of batch `b`. -/
theorem maskArr_read (q : S4x1024x3.Idx → Ideal .f32) (p : S4x4x3x2048.Idx → Ideal .f32) (b : Fin 4) (k : Fin 1024) (u : Fin 2048) :
    maskArr q p (ix3 b k u) = bytes (near (fun c => q (ix3 b k c)) (fun c => p (ix4 b 0 c u))) (near (fun c => q (ix3 b k c)) (fun c => p (ix4 b 1 c u)))
        (near (fun c => q (ix3 b k c)) (fun c => p (ix4 b 2 c u))) (near (fun c => q (ix3 b k c)) (fun c => p (ix4 b 3 c u))) := by
  have hu := u.isLt
  unfold maskArr maskBlk
  refine (congrArg _ (show _ = ix3 0 k (⟨u.val % 512, Nat.mod_lt _ (by decide)⟩ : Fin 512) from ?_)).trans ((pay_read _ _ _ _ _ k _).trans ?_)
  · funext a
    match a with
    | 0 => rfl
    | 1 => rfl
    | 2 => rfl
  · have hq (c : Fin 3) : (fun x : S1x1024x3.Idx => q (fun | 0 => (ix3 b k u : S4x1024x2048.Idx) 0 | 1 => x 1 | 2 => x 2)) (ix3 0 k c) = q (ix3 b k c) :=
      congrArg q (funext fun a => match a with | 0 => rfl | 1 => rfl | 2 => rfl)
    have hp (t : Fin 4) (c : Fin 3) : plane (fun x : S1x4x3x512.Idx => p (fun
        | 0 => (ix3 b k u : S4x1024x2048.Idx) 0 | 1 => x 1 | 2 => x 2
        | 3 => ⟨(512 * (((ix3 b k u : S4x1024x2048.Idx) 2).val / 512) + (x 3).val) % 2048, Nat.mod_lt _ (by decide)⟩)) t
          (ix4 0 0 c (⟨u.val % 512, Nat.mod_lt _ (by decide)⟩ : Fin 512)) = p (ix4 b t c u) :=
      congrArg p (funext fun a => match a with
        | 0 => rfl | 1 => rfl | 2 => rfl
        | 3 => Fin.ext (show (512 * (u.val / 512) + u.val % 512) % 2048 = u.val by omega))
    have H (t : Fin 4) := congrArg₂ near (funext hq) (funext (hp t))
    exact congr (congr (congr (congrArg bytes (H 0)) (H 1)) (H 2)) (H 3)

/-- A point's bit in a query's words tells whether it is within the radius. -/
theorem wbit_iff (m : (ℓ : Loc nD τ sig) → Buf (Elt Ideal) ℓ) (d : Dev nD) (b : Fin 4) (k : Fin 1024) (n : Fin 8192) :
    wbit m d b k n.val ↔ near (fun c => A1 m d (ix3 b k c)) (fun c => A0 m d (ix3 b n c)) = 1#1 := by
  have hn := n.isLt
  unfold wbit words
  rw [maskArr_read]
  refine (bytes_bit (fun t => near (fun c => A1 m d (ix3 b k c)) (fun c => transpose S4x4x3x2048 [0, 2, 3, 1]
    (shapeCast S4x2048x4x3 (A0 m d) shapeCasts_S4x8192x3_S4x2048x4x3) transposes_S4x2048x4x3_S4x4x3x2048_0_2_3_1
    (ix4 b t c (⟨n.val / 4 % 2048, Nat.mod_lt _ (by decide)⟩ : Fin 2048)))) ⟨n.val % 4, Nat.mod_lt _ (by decide)⟩).trans ?_
  have hp (c : Fin 3) : transpose S4x4x3x2048 [0, 2, 3, 1]
      (shapeCast S4x2048x4x3 (A0 m d) shapeCasts_S4x8192x3_S4x2048x4x3) transposes_S4x2048x4x3_S4x4x3x2048_0_2_3_1
      (ix4 b (⟨n.val % 4, Nat.mod_lt _ (by decide)⟩ : Fin 4) c (⟨n.val / 4 % 2048, Nat.mod_lt _ (by decide)⟩ : Fin 2048)) = A0 m d (ix3 b n c) := by
    refine (cast_at _ _ _ (ix3 b n c) ?_)
    rw [rowMajor_val3 _ 24576 3 rfl rfl, rowMajor_val4 _ 24576 12 3 rfl rfl rfl]
    show b.val * 24576 + n.val * 3 + c.val = b.val * 24576 + (n.val / 4 % 2048) * 12 + (n.val % 4) * 3 + c.val
    omega
  simp only [hp]

end Cert.Proof.Grp

end
-- ==== Proof.Own.Ref.lean ====
/-
  What the reference computes, read at an index over the extended reals.
-/
module

public import proofs.«01_k».proof.Proof.Own.Rank
public import proofs.«01_k».proof.Proof.Own.Near
public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

noncomputable section

namespace Cert.Proof.Ref

open Cert.ReferenceIdeal Cert.ReferenceIdeal.Gen
open Idealize.ShloMosaic
open Cert.Proof.Grp (near dist rel key place sel sel_lt sel_place)

/-! ## The reference's stages -/

section
variable {F : FTy → Type} [FloatOps F] (P : Vec F S4x8192x3 .f32) (Q : Vec F S4x1024x3 .f32)

/-- Which points are within the radius of which query. -/
def within : IVec S4x1024x8192 1 :=
  cmpf .ole (subf (addf (broadcastInDim S4x1024x8192 ![0, 1, 2] bcast_S4x1024x1_S4x1024x8192_0_1_2 (broadcastInDim S4x1024x1 ![0, 1] bcast_S4x1024_S4x1024x1_0_1 (Host.reduceAdd (mulf Q Q) (constant S_ .f32 0x00000000#32) reducesTo_S4x1024x3_S4x1024_d2 h_S_)))
    (broadcastInDim S4x1024x8192 ![0, 1, 2] bcast_S4x1x8192_S4x1024x8192_0_1_2 (broadcastInDim S4x1x8192 ![0, 2] bcast_S4x8192_S4x1x8192_0_2 (Host.reduceAdd (mulf P P) (constant S_ .f32 0x00000000#32) reducesTo_S4x8192x3_S4x8192_d2 h_S_))))
    (mulf (broadcastInDim S4x1024x8192 ![] bcast_S_S4x1024x8192 (constant S_ .f32 0x40000000#32)) (Host.dotGeneral dot_S4x1024x3_S4x8192x3_S4x1024x8192_2_2_1_1_0_0 none Q P)))
    (broadcastInDim S4x1024x8192 ![] bcast_S_S4x1024x8192 (constant S_ .f32 0x3D23D70A#32))

/-- The points' numbers, 8192 in place of those outside the radius. -/
def cand (M : IVec S4x1024x8192 1) : IVec S4x1024x8192 32 :=
  select M (broadcastInDim S4x1024x8192 ![0, 1, 2] bcast_S1x1x8192_S4x1024x8192_0_1_2 (broadcastInDim S1x1x8192 ![2] bcast_S8192_S1x1x8192_2 (iotaInDim S8192 32 0)))
    (broadcastInDim S4x1024x8192 ![] bcast_S_S4x1024x8192 (constantI S_ 32 8192#32))

/-- The first 32 of them, sorted. -/
def front (C : IVec S4x1024x8192 32) : IVec S4x1024x32 32 :=
  extractStridedSlice S4x1024x32 ![0, 0, 0] (Host.sort S4x1024x8192 2 comparator_i32_d2 C) slices_S4x1024x8192_S4x1024x32_0_0_0

/-- The first of all. -/
def lead (s : IVec S4x1024x32 32) : IVec S4x1024x1 32 :=
  extractStridedSlice S4x1024x1 ![0, 0, 0] s slices_S4x1024x32_S4x1024x1_0_0_0

/-- The 32 with the first standing in where there is none, and 0 where there is no first either. -/
def filled (s : IVec S4x1024x32 32) : IVec S4x1024x32 32 :=
  select (cmpi .eq s (broadcastInDim S4x1024x32 ![] bcast_S_S4x1024x32 (constantI S_ 32 8192#32)))
    (broadcastInDim S4x1024x32 ![0, 1, 2] bcast_S4x1024x1_S4x1024x32_0_1_2
      (select (cmpi .eq (lead s) (broadcastInDim S4x1024x1 ![] bcast_S_S4x1024x1 (constantI S_ 32 8192#32))) (broadcastInDim S4x1024x1 ![] bcast_S_S4x1024x1 (constantI S_ 32 0#32)) (lead s))) s

/-- The same, a negative number counted from the end. -/
def wrapped (x : IVec S4x1024x32 32) : IVec S4x1024x32 32 :=
  select (cmpi .slt x (broadcastInDim S4x1024x32 ![] bcast_S_S4x1024x32 (constantI S_ 32 0#32))) (addi x (broadcastInDim S4x1024x32 ![] bcast_S_S4x1024x32 (constantI S_ 32 8192#32))) x

/-- The chosen points' coordinates, relative to the query's and scaled by the radius. -/
def grouped (x : IVec S4x1024x32 32) : Vec F S4x3x1024x32 .f32 :=
  Host.divf (subf (Host.gather gather_S4x3x8192_S4x1024x32x1_S4x3x1024x32_1_2_0_0_2_3_131 (transpose S4x3x8192 [0, 2, 1] P transposes_S4x8192x3_S4x3x8192_0_2_1) (broadcastInDim S4x1024x32x1 ![0, 1, 2] bcast_S4x1024x32_S4x1024x32x1_0_1_2 x))
    (broadcastInDim S4x3x1024x32 ![0, 1, 2, 3] bcast_S4x3x1024x1_S4x3x1024x32_0_1_2_3 (broadcastInDim S4x3x1024x1 ![0, 1, 2] bcast_S4x3x1024_S4x3x1024x1_0_1_2 (transpose S4x3x1024 [0, 2, 1] Q transposes_S4x1024x3_S4x3x1024_0_2_1))))
    (broadcastInDim S4x3x1024x32 ![] bcast_S_S4x3x1024x32 (constant S_ .f32 0x3E4CCCCD#32))

/-- The reference's result by its stages. -/
theorem res_eq (m : (ℓ : Loc nD τ sig) → Buf (Elt F) ℓ) (c : Dev nD) :
    Cert.ReferenceIdeal.Value.res_main_v40 m c = grouped (m ((c.tc : Thread nD τ).loc main_arg0)) (m ((c.tc : Thread nD τ).loc main_arg1))
      (wrapped (filled (front (cand (within (m ((c.tc : Thread nD τ).loc main_arg0)) (m ((c.tc : Thread nD τ).loc main_arg1))))))) := rfl

end

/-! ## The stages read at an index -/

variable (P : Vec Ideal S4x8192x3 .f32) (Q : Vec Ideal S4x1024x3 .f32) (b : Fin 4) (k : Fin 1024)

/-- The reference's mask marks the points near the query. -/
theorem within_read (n : Fin 8192) :
    within P Q (ix3 b k n) = near (fun c => Q (ix3 b k c)) (fun c => P (ix3 b n c)) := by
  unfold within
  clean_types
  pointwise
  simp only [Fin.sum_univ_three]
  rfl

variable (p : ℕ → Prop) [DecidablePred p]

/-- A point's number, or 8192. -/
theorem cand_read (M : IVec S4x1024x8192 1) (hp : ∀ n : Fin 8192, p n.val ↔ M (ix3 b k n) = 1#1) (n : Fin 8192) :
    cand M (ix3 b k n) = BitVec.ofNat 32 (key p n) := by
  unfold cand
  clean_types
  pointwise
  unfold key Scalar.select
  show (if M (ix3 b k n) = 1#1 then _ else _) = _
  by_cases h : p n.val
  · rw [if_pos h, if_pos ((hp n).mp h)]
  · rw [if_neg h, if_neg (fun e => h ((hp n).mpr e))]

/-- Numbers up to 8192 compare as words as they do themselves. -/
theorem slt_word (x y : ℕ) (hx : x ≤ 8192) (hy : y ≤ 8192) :
    (comparator_i32_d2 (BitVec.ofNat 32 x) (BitVec.ofNat 32 y) == 1#1) = decide (x < y) := by
  have h : (BitVec.ofNat 32 x).slt (BitVec.ofNat 32 y) = decide (x < y) := by
    rw [BitVec.slt_eq_decide]
    have e (z : ℕ) (hz : z ≤ 8192) : (BitVec.ofNat 32 z).toInt = (z : ℤ) := by
      rw [BitVec.toInt_ofNat']; simp [Int.bmod]; omega
    rw [e x hx, e y hy]
    exact decide_eq_decide.mpr Nat.cast_lt
  show (BitVec.ofBool ((BitVec.ofNat 32 x).slt (BitVec.ofNat 32 y)) == 1#1) = _
  rw [h]
  cases decide (x < y) <;> rfl

/-- No key is above 8192. -/
theorem key_bound (n : Fin 8192) : key p n ≤ 8192 := by
  unfold key; have := n.isLt; split <;> omega

/-- The sorted front, by place. -/
theorem front_read (C : IVec S4x1024x8192 32) (hC : ∀ n : Fin 8192, C (ix3 b k n) = BitVec.ofNat 32 (key p n)) (j : Fin 32) :
    front C (ix3 b k j) = BitVec.ofNat 32 (key p (place p ⟨j.val, by omega⟩)) := by
  unfold front
  pointwise
  have hal (n : Fin 8192) : Shape.Idx.along (ix3 b k (⟨j.val, by omega⟩ : Fin 8192) : S4x1024x8192.Idx) (2 : Fin 3) n = ix3 b k n := by
    funext a
    match a with
    | 0 => rfl
    | 1 => rfl
    | 2 => rfl
  have hf : (fun n n' : Fin 8192 => comparator_i32_d2 (C (ix3 b k n)) (C (ix3 b k n')) == 1#1)
      = fun n n' => decide (key p n < key p n') := by
    funext n n'
    rw [hC, hC, slt_word _ _ (key_bound p n) (key_bound p n')]
  have hs : Host.sort S4x1024x8192 2 comparator_i32_d2 C (ix3 b k (⟨j.val, by omega⟩ : Fin 8192))
      = C (Shape.Idx.along (ix3 b k (⟨j.val, by omega⟩ : Fin 8192) : S4x1024x8192.Idx) (2 : Fin 3)
        (sortedFrom (fun n n' : Fin 8192 => comparator_i32_d2 (C (Shape.Idx.along (ix3 b k (⟨j.val, by omega⟩ : Fin 8192) : S4x1024x8192.Idx) (2 : Fin 3) n))
          (C (Shape.Idx.along (ix3 b k (⟨j.val, by omega⟩ : Fin 8192) : S4x1024x8192.Idx) (2 : Fin 3) n')) == 1#1) (⟨j.val, by omega⟩ : Fin 8192))) := by
    unfold Host.sort
    rw [dif_pos (show 2 < S4x1024x8192.rank by decide)]
    rfl
  simp only [hal] at hs
  rw [hf] at hs
  exact hs.trans ((congrArg C (hal (place p ⟨j.val, by omega⟩))).trans (hC _))

/-- Filled, the front holds the selected points. -/
theorem filled_read (s : IVec S4x1024x32 32) (hs : ∀ j : Fin 32, s (ix3 b k j) = BitVec.ofNat 32 (key p (place p ⟨j.val, by omega⟩))) (j : Fin 32) :
    filled s (ix3 b k j) = BitVec.ofNat 32 (sel p j.val) := by
  unfold filled lead
  clean_types
  pointwise
  have h0 : s (ix3 b k 0) = BitVec.ofNat 32 (key p (place p 0)) := hs 0
  have hk (x : ℕ) (hx : x ≤ 8192) : IntOp.cmpi .eq (BitVec.ofNat 32 x) 8192#32 = BitVec.ofBool (decide (x = 8192)) := by
    show BitVec.ofBool (BitVec.ofNat 32 x == 8192#32) = _
    congr 1
    rw [beq_eq_decide]
    refine decide_eq_decide.mpr ⟨fun h => ?_, fun h => by rw [h]⟩
    have := congrArg BitVec.toNat h
    simp only [BitVec.toNat_ofNat] at this
    omega
  rw [hs, h0, hk _ (key_bound p _), hk _ (key_bound p _), show sel p j.val = _ from sel_place p ⟨j.val, by omega⟩]
  unfold Scalar.select
  split_ifs <;> simp_all

/-- A point's number stays as it is. -/
theorem wrapped_read (x : IVec S4x1024x32 32) (j : Fin 32) (n : ℕ) (hn : n < 8192) (hx : x (ix3 b k j) = BitVec.ofNat 32 n) :
    wrapped x (ix3 b k j) = BitVec.ofNat 32 n := by
  unfold wrapped
  clean_types
  pointwise
  have h : IntOp.cmpi .slt (BitVec.ofNat 32 n) 0#32 = 0#1 := by
    have e : (BitVec.ofNat 32 n).slt 0#32 = false := by
      rw [BitVec.slt_eq_decide]
      have e : (BitVec.ofNat 32 n).toInt = (n : ℤ) := by rw [BitVec.toInt_ofNat']; simp [Int.bmod]; omega
      rw [e]
      simp
    show BitVec.ofBool ((BitVec.ofNat 32 n).slt 0#32) = _
    rw [e]; rfl
  rw [hx, h]
  rfl

/-- The gather reads, of coordinate `c`, the point its index names. -/
theorem gather_read (X : Vec Ideal S4x3x8192 .f32) (I : IVec S4x1024x32x1 32) (j : Fin 32) (n : ℕ) (hn : n < 8192)
    (hI : I (ix4 b k j 0) = BitVec.ofNat 32 n) (c : Fin 3) :
    Host.gather gather_S4x3x8192_S4x1024x32x1_S4x3x1024x32_1_2_0_0_2_3_131 X I (ix4 b c k j) = X (ix3 b c ⟨n, hn⟩) := by
  refine congrArg X (funext fun a => Fin.ext ?_)
  show (gather_S4x3x8192_S4x1024x32x1_S4x3x1024x32_1_2_0_0_2_3_131).start (ix4 b c k j) I a
    + (gather_S4x3x8192_S4x1024x32x1_S4x3x1024x32_1_2_0_0_2_3_131).batchCoord (ix4 b c k j) a
    + (gather_S4x3x8192_S4x1024x32x1_S4x3x1024x32_1_2_0_0_2_3_131).offCoord (ix4 b c k j) a = _
  match a with
  | 0 =>
    rw [GatherDims.offCoord_eq_zero _ _ _ (by decide)]
    unfold GatherDims.start GatherDims.batchCoord
    rw [dif_neg (by decide), dif_pos (by decide)]
    exact (Nat.zero_add _).trans rfl
  | 1 =>
    rw [GatherDims.batchCoord_eq_zero _ _ _ (by decide)]
    unfold GatherDims.start GatherDims.offCoord
    rw [dif_neg (by decide), dif_pos (by decide)]
    exact (Nat.zero_add _).trans rfl
  | 2 =>
    rw [GatherDims.batchCoord_eq_zero _ _ _ (by decide), GatherDims.offCoord_eq_zero _ _ _ (by decide)]
    unfold GatherDims.start
    rw [dif_pos (by decide)]
    have hsi : (gather_S4x3x8192_S4x1024x32x1_S4x3x1024x32_1_2_0_0_2_3_131).siIdx (ix4 b c k j) ⟨List.idxOf (2 : Fin 3)
        (gather_S4x3x8192_S4x1024x32x1_S4x3x1024x32_1_2_0_0_2_3_131).startIndexMap, by decide⟩ = ix4 b k j 0 := by
      funext a
      match a with
      | 0 => rfl
      | 1 => rfl
      | 2 => rfl
      | 3 => rfl
    have e : (BitVec.ofNat 32 n).toInt = (n : ℤ) := by rw [BitVec.toInt_ofNat']; simp [Int.bmod]; omega
    rw [hsi, hI, e]
    show min n (8192 - 1) + 0 + 0 = n
    omega

/-- Where the index names a point, the result is that point's coordinate relative to the query. -/
theorem grouped_read (x : IVec S4x1024x32 32) (j : Fin 32) (n : ℕ) (hn : n < 8192) (hx : x (ix3 b k j) = BitVec.ofNat 32 n) (c : Fin 3) :
    grouped P Q x (ix4 b c k j) = rel (F := Ideal) (P (ix3 b ⟨n, hn⟩ c)) (Q (ix3 b k c)) := by
  unfold grouped
  clean_types
  pointwise
  have hI : broadcastInDim S4x1024x32x1 ![0, 1, 2] bcast_S4x1024x32_S4x1024x32x1_0_1_2 x (ix4 b k j 0) = BitVec.ofNat 32 n := by
    refine Eq.trans ?_ hx
    pointwise
  rw [gather_read b k _ _ j n hn hI c]
  have hT : transpose S4x3x8192 [0, 2, 1] P transposes_S4x8192x3_S4x3x8192_0_2_1 (ix3 b c (⟨n, hn⟩ : Fin 8192)) = P (ix3 b ⟨n, hn⟩ c) := by
    pointwise
  rw [hT]
  rfl

/-- The reference's result at an index: the selected point's coordinate relative to the query's. -/
theorem res_read (m : (ℓ : Loc nD τ sig) → Buf (Elt Ideal) ℓ) (d : Dev nD)
    (hp : ∀ n : Fin 8192, p n.val ↔ near (fun c => (m ((d.tc : Thread nD τ).loc main_arg1) : Vec Ideal S4x1024x3 .f32) (ix3 b k c))
      (fun c => (m ((d.tc : Thread nD τ).loc main_arg0) : Vec Ideal S4x8192x3 .f32) (ix3 b n c)) = 1#1) (c : Fin 3) (j : Fin 32) :
    (Cert.ReferenceIdeal.Value.res_main_v40 m d : Vec Ideal S4x3x1024x32 .f32) (ix4 b c k j)
      = rel (F := Ideal) ((m ((d.tc : Thread nD τ).loc main_arg0) : Vec Ideal S4x8192x3 .f32) (ix3 b ⟨sel p j.val, sel_lt _⟩ c))
          ((m ((d.tc : Thread nD τ).loc main_arg1) : Vec Ideal S4x1024x3 .f32) (ix3 b k c)) := by
  rw [res_eq]
  refine grouped_read _ _ b k _ j (sel p j.val) (sel_lt _) (wrapped_read b k _ j _ (sel_lt _) ?_) c
  refine filled_read b k p _ (fun j => front_read b k p _ (fun n => cand_read b k p _ (fun n => (hp n).trans ?_) n) j) j
  rw [within_read]

end Cert.Proof.Ref

end
-- ==== Proof.Own.Final.lean ====
/-
  The optimised program and the reference leave the same results over the extended reals.
-/
module

public import proofs.«01_k».proof.Defs
public import proofs.«01_k».proof.Proof.Own.Ref
public import proofs.«01_k».proof.Proof.Own.Frames

@[expose] public section

noncomputable section

namespace Cert.Proof.Grp

open Idealize.ShloMosaic Idealize.SL.Sem

attribute [local instance] Cert.KernelIdeal.Gen.facts Cert.ReferenceIdeal.Gen.facts

/-- Where the two memories agree on the points and the queries, the reference's result is the optimised program's. -/
theorem res_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (h0 : (m' ((d.tc : Thread Cert.ReferenceIdeal.nD Cert.ReferenceIdeal.τ).loc Cert.ReferenceIdeal.main_arg0) : Vec Ideal Cert.ReferenceIdeal.S4x8192x3 .f32) = A0 m d)
    (h1 : (m' ((d.tc : Thread Cert.ReferenceIdeal.nD Cert.ReferenceIdeal.τ).loc Cert.ReferenceIdeal.main_arg1) : Vec Ideal Cert.ReferenceIdeal.S4x1024x3 .f32) = A1 m d) :
    (Cert.ReferenceIdeal.Value.res_main_v40 m' d : Vec Ideal Cert.ReferenceIdeal.S4x3x1024x32 .f32)
      = V₅ m d (Proc.devRef .tc Cert.KernelIdeal.main_v8) := by
  have H (b : Fin 4) (c : Fin 3) (k : Fin 1024) (j : Fin 32) :
      (Cert.ReferenceIdeal.Value.res_main_v40 m' d : Vec Ideal Cert.ReferenceIdeal.S4x3x1024x32 .f32) (ix4 b c k j)
        = V₅ m d (Proc.devRef .tc Cert.KernelIdeal.main_v8) (ix4 b c k j) := by
    refine (Cert.Proof.Ref.res_read b k (wbit m d b k) m' d (fun n => ?_) c j).trans ?_
    · rw [h0, h1]; exact wbit_iff m d b k n
    · rw [h0, h1]; exact (V₅_v8_apply m d b c k j).symm
  funext y
  rw [eq_ix4 y]
  exact H _ _ _ _

/-- Over the extended reals the optimised program and the reference compute the same function, of both results. -/
theorem same : Cert.algebraic_KernelIdeal_ReferenceIdeal := fun m g m' g' _ hm => by
  refine ⟨fun d => V₅ m d (Proc.devRef .tc Cert.KernelIdeal.main_v8), fun d => V₅ m d (Proc.devRef .tc Cert.KernelIdeal.main_v8), ?_, ?_⟩
  · exact (θ_run (Cert.KernelIdeal.defs (F := Ideal)) _ _).mono (fun _ h d => ⟨(h.1 d).1, (h.1 d).1, (h.1 d).2⟩) (run_tc (F := Ideal) m g)
  · refine (θ_run Cert.ReferenceIdeal.defs _ _).mono (fun r h d => ?_) (Cert.ReferenceIdeal.Value.run (F := Ideal) m' g')
    have e := res_same m m' d (hm d).1 (hm d).2.1
    exact ⟨(h d).1.trans e, (h d).2.1.trans e, (h d).2.2⟩

end Cert.Proof.Grp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Own.Frames
public import proofs.«01_k».proof.Proof.Own.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Grp.frame_kernel, Grp.frame_kernelIdeal, Grp.frame_reference, trivial, Grp.same⟩

end Cert.Proof

end
